-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S32x128 : Shape := ⟨2, ![32, 128]⟩
abbrev S32x278528 : Shape := ⟨2, ![32, 278528]⟩
abbrev S4096 : Shape := ⟨1, ![4096]⟩
abbrev S_ : Shape := ⟨0, ![]⟩
abbrev S16 : Shape := ⟨1, ![16]⟩
abbrev S1x4096 : Shape := ⟨2, ![1, 4096]⟩
abbrev S32x8192 : Shape := ⟨2, ![32, 8192]⟩
abbrev S32x1024 : Shape := ⟨2, ![32, 1024]⟩
abbrev S32x1 : Shape := ⟨2, ![32, 1]⟩
abbrev S32 : Shape := ⟨1, ![32]⟩

abbrev nBuf : Table → Nat
  | .hbm => 6
  | .local .tc .vmem => 18
  | .local .scVector .vmem => 2
  | _ => 0

abbrev bufTy : (tb : Table) → Fin (nBuf tb) → BufTy
  | .hbm, ⟨0, _⟩ => ⟨S32x1000000, .f32⟩
  | .hbm, ⟨1, _⟩ => ⟨S32x128, .i32⟩
  | .hbm, ⟨2, _⟩ => ⟨S32x278528, .i32⟩
  | .hbm, ⟨3, _⟩ => ⟨S32x128, .f32⟩
  | .hbm, ⟨4, _⟩ => ⟨S32x128, .i32⟩
  | .hbm, ⟨5, _⟩ => ⟨S32x1, .i32⟩
  | .local .tc .vmem, ⟨0, _⟩ => ⟨S32x128, .i32⟩
  | .local .tc .vmem, ⟨1, _⟩ => ⟨S32x8192, .f32⟩
  | .local .tc .vmem, ⟨2, _⟩ => ⟨S32x8192, .f32⟩
  | .local .tc .vmem, ⟨3, _⟩ => ⟨S32x1024, .f32⟩
  | .local .tc .vmem, ⟨4, _⟩ => ⟨S32x128, .f32⟩
  | .local .tc .vmem, ⟨5, _⟩ => ⟨S32x128, .i32⟩
  | .local .tc .vmem, ⟨6, _⟩ => ⟨S32x128, .f32⟩
  | .local .tc .vmem, ⟨7, _⟩ => ⟨S32x128, .i32⟩
  | .local .tc .vmem, ⟨8, _⟩ => ⟨S32x128, .i32⟩
  | .local .tc .vmem, ⟨9, _⟩ => ⟨S32x128, .f32⟩
  | .local .tc .vmem, ⟨10, _⟩ => ⟨S32x128, .i32⟩
  | .local .tc .vmem, ⟨11, _⟩ => ⟨S32x8192, .f32⟩
  | .local .tc .vmem, ⟨12, _⟩ => ⟨S32x8192, .f32⟩
  | .local .tc .vmem, ⟨13, _⟩ => ⟨S32x8192, .i32⟩
  | .local .tc .vmem, ⟨14, _⟩ => ⟨S32x8192, .i32⟩
  | .local .tc .vmem, ⟨15, _⟩ => ⟨S32x1, .i32⟩
  | .local .tc .vmem, ⟨16, _⟩ => ⟨S32x128, .f32⟩
  | .local .tc .vmem, ⟨17, _⟩ => ⟨S32x128, .i32⟩
  | .local .scVector .vmem, ⟨0, _⟩ => ⟨S4096, .i32⟩
  | .local .scVector .vmem, ⟨1, _⟩ => ⟨S4096, .i32⟩
  | _, _ => ⟨S32x1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_scratch0 : Ref sig .tc := ⟨.vmem, 16, rfl⟩
abbrev cc2_scratch1 : Ref sig .tc := ⟨.vmem, 17, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem1_1 : DmaSem sig := 4
abbrev cc1_sem2_0 : DmaSem sig := 5
abbrev cc1_sem3_0 : DmaSem sig := 6
abbrev cc1_sem4_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem3_1 : DmaSem sig := 12
abbrev cc2_sem4_0 : DmaSem sig := 13
abbrev cc2_sem4_1 : DmaSem sig := 14
abbrev cc2_sem5_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c34_i32 : BitVec 32 := 34#32
  let v5 : BitVec 32 := Scalar.addi c0_i32_0 c34_i32
  let c1_i32 : BitVec 32 := 1#32
  ⟨c0_i32_0, v5, c1_i32⟩
def k0_cond1 (k0_t1 : Fin k0_t1_loop.trips) : BitVec 1 :=
  let c0_i32_0 : BitVec 32 := 0#32
  let c1_i32 : BitVec 32 := 1#32
  let arg7 : BitVec 32 := Scf.iv c0_i32_0 c1_i32 k0_t1
  let c0_i32_6 : BitVec 32 := 0#32
  let v15 : BitVec 1 := Scalar.cmpi .sgt arg7 c0_i32_6
  let v16 : BitVec 32 := Scalar.extui v15
  let c0_i32_7 : BitVec 32 := 0#32
  let v17 : BitVec 1 := Scalar.cmpi .ne v16 c0_i32_7
  v17

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20 : BitVec 32 := 0#32
  ![v1.toNat, 0]
@[reducible] def k0_t2_loop : Scf.Loop 32 :=
  let c0_i32_9 : BitVec 32 := 0#32
  let c32_i32 : BitVec 32 := 32#32
  let v19 : BitVec 32 := Scalar.addi c0_i32_9 c32_i32
  let c1_i32_10 : BitVec 32 := 1#32
  ⟨c0_i32_9, v19, c1_i32_10⟩
def k0_off2 (k0_t2 : Fin k0_t2_loop.trips) (c0_i32_53 : BitVec 32) : Fin 1 → Nat :=
  let c0_i32_9 : BitVec 32 := 0#32
  let c1_i32_10 : BitVec 32 := 1#32
  let arg8 : BitVec 32 := Scf.iv c0_i32_9 c1_i32_10 k0_t2
  let c128_i32 : BitVec 32 := 128#32
  let v35 : BitVec 32 := Scalar.muli arg8 c128_i32
  let v198 : BitVec 32 := Scalar.addi v35 c0_i32_53
  let v199 : Index := Scalar.indexCast v198
  ![v199.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg7 : BitVec 32 := Scf.iv c0_i32_0 c1_i32 k0_t1
  let c8192_i32 : BitVec 32 := 8192#32
  let v14 : BitVec 32 := Scalar.muli arg7 c8192_i32
  ![v1.toNat, v14.toNat]
def k0_cond2 (k0_t1 : Fin k0_t1_loop.trips) : BitVec 1 :=
  let c0_i32_0 : BitVec 32 := 0#32
  let c1_i32 : BitVec 32 := 1#32
  let arg7 : BitVec 32 := Scf.iv c0_i32_0 c1_i32 k0_t1
  let c0_i32_12 : BitVec 32 := 0#32
  let v24 : BitVec 1 := Scalar.cmpi .sgt arg7 c0_i32_12
  let v25 : BitVec 32 := Scalar.extui v24
  let c0_i32_13 : BitVec 32 := 0#32
  let v26 : BitVec 1 := Scalar.cmpi .ne v25 c0_i32_13
  v26

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20 : BitVec 32 := 0#32
  ![v1.toNat, 0]
@[reducible] def k0_t3_loop : Scf.Loop 32 :=
  let c0_i32_15 : BitVec 32 := 0#32
  let c32_i32_16 : BitVec 32 := 32#32
  let v29 : BitVec 32 := Scalar.addi c0_i32_15 c32_i32_16
  let c1_i32_17 : BitVec 32 := 1#32
  ⟨c0_i32_15, v29, c1_i32_17⟩
def k0_off5 (k0_t3 : Fin k0_t3_loop.trips) (c0_i32_53 : BitVec 32) : Fin 1 → Nat :=
  let c0_i32_15 : BitVec 32 := 0#32
  let c1_i32_17 : BitVec 32 := 1#32
  let arg8 : BitVec 32 := Scf.iv c0_i32_15 c1_i32_17 k0_t3
  let c128_i32 : BitVec 32 := 128#32
  let v35 : BitVec 32 := Scalar.muli arg8 c128_i32
  let v198 : BitVec 32 := Scalar.addi v35 c0_i32_53
  let v199 : Index := Scalar.indexCast v198
  ![v199.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg7 : BitVec 32 := Scf.iv c0_i32_0 c1_i32 k0_t1
  let c8192_i32 : BitVec 32 := 8192#32
  let v14 : BitVec 32 := Scalar.muli arg7 c8192_i32
  let c4096_i32_19 : BitVec 32 := 4096#32
  let v30 : BitVec 32 := Scalar.addi v14 c4096_i32_19
  ![v1.toNat, v30.toNat]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  ![v1.toNat, 0]
abbrev grid1 : Pipeline.Grid := ⟨1, ![88], ![false]⟩

def k1_cond3 (i : grid1.Coords) : BitVec 1 :=
  let arg0 : BitVec 32 := BitVec.ofNat 32 (i 0).val
  let c87_i32 : BitVec 32 := 87#32
  let v11653 : BitVec 1 := Scalar.cmpi .eq arg0 c87_i32
  let v11654 : BitVec 32 := Scalar.extui v11653
  let c0_i32_3569 : BitVec 32 := 0#32
  let v11655 : BitVec 1 := Scalar.cmpi .ne v11654 c0_i32_3569
  v11655

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c976_i32 : BitVec 32 := 976#32
  let c0_i32_0 : BitVec 32 := 0#32
  ![c0_i32.toNat, c976_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![34], ![false]⟩

def k2_cond2 (i : grid2.Coords) : BitVec 1 :=
  let arg0 : BitVec 32 := BitVec.ofNat 32 (i 0).val
  let c33_i32 : BitVec 32 := 33#32
  let v1934 : BitVec 1 := Scalar.cmpi .eq arg0 c33_i32
  let v1935 : BitVec 32 := Scalar.extui v1934
  let c0_i32_585 : BitVec 32 := 0#32
  let v1936 : BitVec 1 := Scalar.cmpi .ne v1935 c0_i32_585
  v1936

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c88_i32 : BitVec 32 := 88#32
  let v0 : BitVec 32 := Scalar.addi c88_i32 arg0
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S32x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S32x8192 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S32x1 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 278
  | .vmem => 0
  | .smem => 0
  | _ => 0

abbrev hbmTy0_0 (i : Nat) : BufTy := match i % 128 with
  | 0 => ⟨S32x1000000, .f32⟩
  | 1 => ⟨S32x1000000, .f32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S_, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S32x1000000, .f32⟩
  | 121 => ⟨S_, .f32⟩
  | 122 => ⟨S32x1000000, .f32⟩
  | 123 => ⟨S32x1000000, .f32⟩
  | 124 => ⟨S_, .f32⟩
  | 125 => ⟨S32x1000000, .f32⟩
  | 126 => ⟨S32x1000000, .f32⟩
  | 127 => ⟨S_, .f32⟩
  | _ => ⟨S32x1000000, .f32⟩

abbrev hbmTy0_2 (i : Nat) : BufTy := match i % 128 with
  | 0 => ⟨S32x1000000, .f32⟩
  | 1 => ⟨S32x1000000, .f32⟩
  | 2 => ⟨S_, .f32⟩
  | 3 => ⟨S32x1000000, .f32⟩
  | 4 => ⟨S32x1000000, .f32⟩
  | 5 => ⟨S32x1000000, .f32⟩
  | 6 => ⟨S32x1000000, .f32⟩
  | 7 => ⟨S32x1000000, .f32⟩
  | 8 => ⟨S32x1000000, .f32⟩
  | 9 => ⟨S32x1000000, .f32⟩
  | 10 => ⟨S_, .f32⟩
  | 11 => ⟨S32, .f32⟩
  | 12 => ⟨S32x1, .f32⟩
  | 13 => ⟨S32x1000000, .i32⟩
  | 14 => ⟨S32x1000000, .f32⟩
  | 15 => ⟨S32x1000000, .i1⟩
  | 16 => ⟨S_, .i32⟩
  | 17 => ⟨S32x1000000, .i32⟩
  | 18 => ⟨S32x1000000, .i32⟩
  | 19 => ⟨S_, .i32⟩
  | 20 => ⟨S32, .i32⟩
  | 21 => ⟨S32x1, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_11 : Ref sig .tc := ⟨.hbm, 52, rfl⟩
abbrev main_v39 : Ref sig .tc := ⟨.hbm, 53, rfl⟩
abbrev main_v40 : Ref sig .tc := ⟨.hbm, 54, rfl⟩
abbrev main_c_12 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_c_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_c_17 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_c_19 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_20 : Ref sig .tc := ⟨.hbm, 89, rfl⟩
abbrev main_v67 : Ref sig .tc := ⟨.hbm, 90, rfl⟩
abbrev main_v68 : Ref sig .tc := ⟨.hbm, 91, rfl⟩
abbrev main_c_21 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_22 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_c_24 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_25 : Ref sig .tc := ⟨.hbm, 107, rfl⟩
abbrev main_v80 : Ref sig .tc := ⟨.hbm, 108, rfl⟩
abbrev main_v81 : Ref sig .tc := ⟨.hbm, 109, rfl⟩
abbrev main_c_26 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_27 : Ref sig .tc := ⟨.hbm, 116, rfl⟩
abbrev main_v87 : Ref sig .tc := ⟨.hbm, 117, rfl⟩
abbrev main_v88 : Ref sig .tc := ⟨.hbm, 118, rfl⟩
abbrev main_c_28 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_29 : Ref sig .tc := ⟨.hbm, 125, rfl⟩
abbrev main_v94 : Ref sig .tc := ⟨.hbm, 126, rfl⟩
abbrev main_v95 : Ref sig .tc := ⟨.hbm, 127, rfl⟩
abbrev main_c_30 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_31 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_c_34 : Ref sig .tc := ⟨.hbm, 145, rfl⟩
abbrev main_v109 : Ref sig .tc := ⟨.hbm, 146, rfl⟩
abbrev main_v110 : Ref sig .tc := ⟨.hbm, 147, rfl⟩
abbrev main_c_35 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_36 : Ref sig .tc := ⟨.hbm, 152, rfl⟩
abbrev main_v114 : Ref sig .tc := ⟨.hbm, 153, rfl⟩
abbrev main_v115 : Ref sig .tc := ⟨.hbm, 154, rfl⟩
abbrev main_c_37 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_38 : Ref sig .tc := ⟨.hbm, 161, rfl⟩
abbrev main_v121 : Ref sig .tc := ⟨.hbm, 162, rfl⟩
abbrev main_v122 : Ref sig .tc := ⟨.hbm, 163, rfl⟩
abbrev main_c_39 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_40 : Ref sig .tc := ⟨.hbm, 170, rfl⟩
abbrev main_v128 : Ref sig .tc := ⟨.hbm, 171, rfl⟩
abbrev main_v129 : Ref sig .tc := ⟨.hbm, 172, rfl⟩
abbrev main_c_41 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_42 : Ref sig .tc := ⟨.hbm, 179, rfl⟩
abbrev main_v135 : Ref sig .tc := ⟨.hbm, 180, rfl⟩
abbrev main_v136 : Ref sig .tc := ⟨.hbm, 181, rfl⟩
abbrev main_c_43 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_44 : Ref sig .tc := ⟨.hbm, 187, rfl⟩
abbrev main_v141 : Ref sig .tc := ⟨.hbm, 188, rfl⟩
abbrev main_v142 : Ref sig .tc := ⟨.hbm, 189, rfl⟩
abbrev main_c_45 : Ref sig .tc := ⟨.hbm, 190, rfl⟩
abbrev main_v143 : Ref sig .tc := ⟨.hbm, 191, rfl⟩
abbrev main_v144 : Ref sig .tc := ⟨.hbm, 192, rfl⟩
abbrev main_c_46 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_47 : Ref sig .tc := ⟨.hbm, 197, rfl⟩
abbrev main_v148 : Ref sig .tc := ⟨.hbm, 198, rfl⟩
abbrev main_v149 : Ref sig .tc := ⟨.hbm, 199, rfl⟩
abbrev main_c_48 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_49 : Ref sig .tc := ⟨.hbm, 206, rfl⟩
abbrev main_v155 : Ref sig .tc := ⟨.hbm, 207, rfl⟩
abbrev main_v156 : Ref sig .tc := ⟨.hbm, 208, rfl⟩
abbrev main_c_50 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_51 : Ref sig .tc := ⟨.hbm, 215, rfl⟩
abbrev main_v162 : Ref sig .tc := ⟨.hbm, 216, rfl⟩
abbrev main_v163 : Ref sig .tc := ⟨.hbm, 217, rfl⟩
abbrev main_c_52 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_c_53 : Ref sig .tc := ⟨.hbm, 224, rfl⟩
abbrev main_v169 : Ref sig .tc := ⟨.hbm, 225, rfl⟩
abbrev main_v170 : Ref sig .tc := ⟨.hbm, 226, rfl⟩
abbrev main_c_54 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_55 : Ref sig .tc := ⟨.hbm, 232, rfl⟩
abbrev main_v175 : Ref sig .tc := ⟨.hbm, 233, rfl⟩
abbrev main_v176 : Ref sig .tc := ⟨.hbm, 234, rfl⟩
abbrev main_c_56 : Ref sig .tc := ⟨.hbm, 235, rfl⟩
abbrev main_v177 : Ref sig .tc := ⟨.hbm, 236, rfl⟩
abbrev main_v178 : Ref sig .tc := ⟨.hbm, 237, rfl⟩
abbrev main_c_57 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_58 : Ref sig .tc := ⟨.hbm, 242, rfl⟩
abbrev main_v182 : Ref sig .tc := ⟨.hbm, 243, rfl⟩
abbrev main_v183 : Ref sig .tc := ⟨.hbm, 244, rfl⟩
abbrev main_c_59 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst : Ref sig .tc := ⟨.hbm, 249, rfl⟩
abbrev main_v187 : Ref sig .tc := ⟨.hbm, 250, rfl⟩
abbrev main_v188 : Ref sig .tc := ⟨.hbm, 251, rfl⟩
abbrev main_cst_60 : Ref sig .tc := ⟨.hbm, 252, rfl⟩
abbrev main_v189 : Ref sig .tc := ⟨.hbm, 253, rfl⟩
abbrev main_v190 : Ref sig .tc := ⟨.hbm, 254, rfl⟩
abbrev main_cst_61 : Ref sig .tc := ⟨.hbm, 255, rfl⟩
abbrev main_v191 : Ref sig .tc := ⟨.hbm, 256, rfl⟩
abbrev main_v192 : Ref sig .tc := ⟨.hbm, 257, rfl⟩
abbrev main_cst_62 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_cst_63 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_c_64 : Ref sig .tc := ⟨.hbm, 272, rfl⟩
abbrev main_call0_v0 : Ref sig .tc := ⟨.hbm, 273, rfl⟩
abbrev main_v205 : Ref sig .tc := ⟨.hbm, 274, rfl⟩
abbrev main_c_65 : Ref sig .tc := ⟨.hbm, 275, rfl⟩
abbrev main_v206 : Ref sig .tc := ⟨.hbm, 276, rfl⟩
abbrev main_v207 : Ref sig .tc := ⟨.hbm, 277, rfl⟩

abbrev nD : Nat := 1
abbrev τ : Topo := Topo.v7x

variable {F : FTy → Type} [FloatOps F]
-- ==== Proof.Bodies.lean ====
/- The TensorCore kernels' bodies as short recursive programs: the text of `cc1__tc1_kernel` is unrolled over its
   chunks of 128 columns; `tc1` is the same program with the chunks by recursion. -/
module

public import proofs.«01_k».proof.KernelIdeal
public import Idealize.ShloMosaic.Lib.Tactic

@[expose] public section

noncomputable section

namespace Cert.Proof

open Idealize.ShloMosaic Idealize.SL.Sem Cert.KernelIdeal
open Cert.KernelIdeal.Facts₀ Cert.KernelIdeal.Facts

variable {F : FTy → Type} [FloatOps F]

/-- One mixing step of the generator on vectors of words: `y` rotated left by `a` (`b` is `32 - a`), exclusive-or `x`. -/
def vmix {s : Shape} (a b : BitVec 32) (x y : IVec s 32) : IVec s 32 :=
  xori x (ori (shli y (broadcast s a)) (shrui y (broadcast s b)))

/-- Four rounds with given rotations, then the next rounds' two words handed on. -/
def vrounds {s : Shape} {α : Type*} (a0 b0 a1 b1 a2 b2 a3 b3 : BitVec 32) (x0 y0 : IVec s 32) (k : IVec s 32 → IVec s 32 → α) : α :=
  have x1 := addi x0 y0
  have y1 := vmix a0 b0 x1 y0
  have x2 := addi x1 y1
  have y2 := vmix a1 b1 x2 y1
  have x3 := addi x2 y2
  have y3 := vmix a2 b2 x3 y2
  have x4 := addi x3 y3
  have y4 := vmix a3 b3 x4 y3
  k x4 y4

/-- Adding the words of a key schedule step. -/
def vkey {s : Shape} {α : Type*} (c d : BitVec 32) (x y : IVec s 32) (k : IVec s 32 → IVec s 32 → α) : α :=
  have x1 := addi x (broadcast s c)
  have y1 := addi y (broadcast s d)
  k x1 y1

/-- The generator's word of each entry of a vector of counters, as the kernel computes it. -/
def vbits {s : Shape} (x : IVec s 32) : IVec s 32 :=
  have y1 := vmix 13#32 19#32 x x
  have x2 := addi x y1
  have y2 := vmix 15#32 17#32 x2 y1
  have x3 := addi x2 y2
  have y3 := vmix 26#32 6#32 x3 y2
  have x4 := addi x3 y3
  have y4 := vmix 6#32 26#32 x4 y3
  vkey 42#32 466689009#32 x4 y4 fun x y =>
  vrounds 17#32 15#32 29#32 3#32 16#32 16#32 24#32 8#32 x y fun x y =>
  vkey 466689008#32 2#32 x y fun x y =>
  vrounds 13#32 19#32 15#32 17#32 26#32 6#32 6#32 26#32 x y fun x y =>
  vrounds 17#32 15#32 29#32 3#32 16#32 16#32 24#32 8#32 x (addi y (broadcast s 45#32)) fun x y =>
  vkey 42#32 466689012#32 x y fun x y =>
  vrounds 13#32 19#32 15#32 17#32 26#32 6#32 6#32 26#32 x y fun x y =>
  vkey 466689008#32 5#32 x y fun x y =>
  xori x y

/-- The perturbed log-probability of each entry, from its random word and its weight. -/
def vscoreOf (b : IVec S32x128 32) (xv : FVec F S32x128 .f32) : FVec F S32x128 .f32 :=
  addf (subf (broadcast S32x128 (Scalar.ofBits .f32 0x00000000#32))
    (log (subf (broadcast S32x128 (Scalar.ofBits .f32 0x00000000#32))
      (log (addf (subf (bitcastToFloat .f32 (ori (shrui b (broadcast S32x128 9#32)) (broadcast S32x128 1065353216#32)))
        (broadcast S32x128 (Scalar.ofBits .f32 0x3F800000#32))) (broadcast S32x128 (Scalar.ofBits .f32 0x00800000#32)))))))
    (log xv)

/-- The perturbed log-probability of each entry, from its counter and its weight. -/
def vscore (c : IVec S32x128 32) (xv : FVec F S32x128 .f32) : FVec F S32x128 .f32 := vscoreOf (vbits c) xv

/-- The columns `k * 128 …` of a window of 8192 columns are inside it. -/
theorem inb_chunk (k : Nat) (hk : k < 64) : ∀ a, (![0, k * 128] : Fin 2 → Nat) a + S32x128.size a ≤ S32x8192.size a := by
  intro a; fin_cases a <;> simp <;> omega

/-- The columns `k * 128 …` of a window of 1024 columns are inside it. -/
theorem inb_tailChunk (k : Nat) (hk : k < 8) : ∀ a, (![0, k * 128] : Fin 2 → Nat) a + S32x128.size a ≤ S32x1024.size a := by
  intro a; fin_cases a <;> simp <;> omega

section
variable [Facts]

/-- The kernels' programs on a TensorCore. -/
abbrev TC (F : FTy → Type) [FloatOps F] := Prog (TpuEff nD τ sig (Elt F) Λ₀ .tc)

/-- Load chunk `k` of a window of 8192 columns. -/
def ldChunk {e : EltTy} (M : Memref sig .tc .vmem S32x8192 e) (k : Nat) (hk : k < 64) : TC F (Vec F S32x128 e) :=
  Prog.lift (.load M (Rect.unit (s := S32x8192) ![0, k * 128] S32x128.size (inb_chunk k hk)).toLoadRect (View.loadsAt_vmem h_S32x128))

/-- Load chunk `k` of a window of 1024 columns. -/
def ldTail {e : EltTy} (M : Memref sig .tc .vmem S32x1024 e) (k : Nat) (hk : k < 8) : TC F (Vec F S32x128 e) :=
  Prog.lift (.load M (Rect.unit (s := S32x1024) ![0, k * 128] S32x128.size (inb_tailChunk k hk)).toLoadRect (View.loadsAt_vmem h_S32x128))

/-- Load a whole buffer of 32 rows of 128. -/
def ld {e : EltTy} (M : Memref sig .tc .vmem S32x128 e) : TC F (Vec F S32x128 e) :=
  Prog.lift (.load M (Rect.unit (s := S32x128) ![0, 0] S32x128.size inb_S32x128_S32x128_0_0).toLoadRect (View.loadsAt_vmem h_S32x128))

/-- The counters of chunk `k` of the point whose first column is `v1`. -/
def ctr (v0 : IVec S32x128 32) (v1 : BitVec 32) (k : Nat) : IVec S32x128 32 :=
  addi v0 (broadcast S32x128 (Scalar.addi v1 (BitVec.ofNat 32 (k * 128))))

/-- Keep the larger score and its counter, the earlier one on equality. -/
def vstep {α : Type*} (s : FVec F S32x128 .f32) (c : IVec S32x128 32) (v : FVec F S32x128 .f32) (w : IVec S32x128 32)
    (k : FVec F S32x128 .f32 → IVec S32x128 32 → α) : α :=
  have u := cmpf .ogt s v
  k (select u s v) (select u c w)

/-- The chunks `k, …, k + n - 1` of a point of the first kernel, from a state. -/
def runChunks {α : Type} (x : Memref sig .tc .vmem S32x8192 .f32) (v0 : IVec S32x128 32) (v1 : BitVec 32)
    (cont : FVec F S32x128 .f32 → IVec S32x128 32 → TC F α) :
    (n k : Nat) → k + n ≤ 64 → FVec F S32x128 .f32 → IVec S32x128 32 → TC F α
  | 0, _, _, v, w => cont v w
  | n + 1, k, h, v, w => do
    let xv ← ldChunk x k (by omega)
    vstep (vscore (ctr v0 v1 k) xv) (ctr v0 v1 k) v w fun v w => runChunks x v0 v1 cont n (k + 1) (by omega) v w

/-- Thirty-two chunks from chunk `k` on. -/
def half {α : Type} (x : Memref sig .tc .vmem S32x8192 .f32) (v0 : IVec S32x128 32) (v1 : BitVec 32) (k : Nat) (hk : k + 32 ≤ 64)
    (cont : FVec F S32x128 .f32 → IVec S32x128 32 → TC F α) : TC F α := do
  let xv ← ldChunk x k (by omega)
  runChunks x v0 v1 cont 31 (k + 1) (by omega) (vscore (ctr v0 v1 k) xv) (ctr v0 v1 k)

/-- The tail's chunks `k, …, k + n - 1`, from a state: the lanes whose column is not below a million do not count. -/
def runTail {α : Type} (x : Memref sig .tc .vmem S32x1024 .f32) (v0 lane : IVec S32x128 32)
    (cont : FVec F S32x128 .f32 → IVec S32x128 32 → TC F α) :
    (n k : Nat) → k + n ≤ 8 → FVec F S32x128 .f32 → IVec S32x128 32 → TC F α
  | 0, _, _, v, w => cont v w
  | n + 1, k, h, v, w => do
    let xv ← ldTail x k (by omega)
    have c := addi v0 (broadcast S32x128 (BitVec.ofNat 32 (999424 + k * 128)))
    have s := select (cmpi .slt lane (broadcast S32x128 (BitVec.ofNat 32 (576 + 4294967296 - k * 128)))) (vscore c xv)
      (broadcast S32x128 (Scalar.ofBits .f32 0xFF800000#32))
    vstep s c v w fun v w => runTail x v0 lane cont n (k + 1) (by omega) v w

/-- Store a whole buffer of 32 rows of 128 floats. -/
def stF (M : Memref sig .tc .vmem S32x128 .f32) (v : Vec F S32x128 .f32) : TC F PUnit :=
  Prog.lift (.store M (Rect.unit (s := S32x128) ![0, 0] S32x128.size inb_S32x128_S32x128_0_0) v Finset.univ (View.stores_vmem_bits_univ h_S32x128 rfl) (.inl rfl))

/-- Store a whole buffer of 32 rows of 128 words. -/
def stI (M : Memref sig .tc .vmem S32x128 .i32) (v : Vec F S32x128 .i32) : TC F PUnit :=
  Prog.lift (.store M (Rect.unit (s := S32x128) ![0, 0] S32x128.size inb_S32x128_S32x128_0_0) v Finset.univ (View.stores_vmem_bits_univ h_S32x128 rfl) (.inl rfl))

/-- A condition as the kernels compute it, a comparison of the grid coordinate with a constant. -/
def condOf (p : CmpIPredicate) (a b : BitVec 32) : BitVec 1 := Scalar.cmpi .ne (Scalar.extui (Scalar.cmpi p a b) : BitVec 32) 0#32

/-- The first kernel's body. -/
def tc1 (i : grid1.Coords) (a1 : Memref sig .tc .vmem S32x128 .i32) (a2 : Memref sig .tc .vmem S32x8192 .f32) (a3 : Memref sig .tc .vmem S32x1024 .f32)
    (a4 : Memref sig .tc .vmem S32x128 .f32) (a5 : Memref sig .tc .vmem S32x128 .i32) (a6 : Memref sig .tc .vmem S32x128 .f32)
    (a7 : Memref sig .tc .vmem S32x128 .i32) : TC F PUnit := do
  let v0 ← ld a1
  have p : BitVec 32 := BitVec.ofNat 32 (i 0).val
  have v1 := Scalar.muli p 8192#32
  half a2 v0 v1 0 (by omega) fun va wa =>
  half a2 v0 v1 32 (by omega) fun vb wb =>
  vstep vb wb va wa fun v w => do
  if condOf .eq p 0#32 = 1#1 then do
    let _ ← ld a6
    stF a6 (shapeCast S32x128 v shapeCasts_S32x128_S32x128)
    let _ ← ld a7
    stI a7 (shapeCast S32x128 w shapeCasts_S32x128_S32x128)
    pure PUnit.unit
  else pure PUnit.unit
  if condOf .sgt p 0#32 = 1#1 then do
    let ov ← ld a6
    have u := cmpf .ogt v ov
    let _ ← ld a6
    stF a6 (shapeCast S32x128 (select u v ov) shapeCasts_S32x128_S32x128)
    let ow ← ld a7
    let _ ← ld a7
    stI a7 (shapeCast S32x128 (select u w ow) shapeCasts_S32x128_S32x128)
    pure PUnit.unit
  else pure PUnit.unit
  if k1_cond3 i = 1#1 then do
    let mv ← ld a6
    let mw ← ld a7
    have lane := subi v0 (broadcastTo S32x128 (extractStridedSlice S32x1 ![0, 0] v0 slices_S32x128_o0_0_S32x1) broadcasts_S32x1_S32x128)
    runTail a3 v0 lane (fun v w => do
      let _ ← ld a4
      stF a4 v
      let _ ← ld a5
      stI a5 w
      pure PUnit.unit) 8 0 (by omega) mv mw
  else pure PUnit.unit
  pure PUnit.unit

set_option maxRecDepth 1000000 in
/-- The first kernel's printed body is `tc1`. -/
theorem tc1_eq (i : grid1.Coords) (a1 : Memref sig .tc .vmem S32x128 .i32) (h1 : a1.IsWhole) (a2 : Memref sig .tc .vmem S32x8192 .f32) (h2 : a2.IsWhole)
    (a3 : Memref sig .tc .vmem S32x1024 .f32) (h3 : a3.IsWhole) (a4 : Memref sig .tc .vmem S32x128 .f32) (h4 : a4.IsWhole)
    (a5 : Memref sig .tc .vmem S32x128 .i32) (h5 : a5.IsWhole) (a6 : Memref sig .tc .vmem S32x128 .f32) (h6 : a6.IsWhole)
    (a7 : Memref sig .tc .vmem S32x128 .i32) (h7 : a7.IsWhole) :
    cc1__tc1_kernel (F := F) i a1 h1 a2 h2 a3 h3 a4 h4 a5 h5 a6 h6 a7 h7 = tc1 i a1 a2 a3 a4 a5 a6 a7 := by
  sl_kernel_rfl

/-- Keep the larger score and its counter, on equality the smaller counter. -/
def vstepLex {α : Type*} (s : FVec F S32x128 .f32) (c : IVec S32x128 32) (v : FVec F S32x128 .f32) (w : IVec S32x128 32)
    (k : FVec F S32x128 .f32 → IVec S32x128 32 → α) : α :=
  have u := ori (cmpf .ogt s v) (andi (cmpf .oeq s v) (cmpi .slt c w))
  k (select u s v) (select u c w)

/-- The chunks `k, …, k + n - 1` of a point of the second kernel, from a state. -/
def runLex {α : Type} (x : Memref sig .tc .vmem S32x8192 .f32) (b : Memref sig .tc .vmem S32x8192 .i32) (v0 : IVec S32x128 32)
    (v1 : BitVec 32) (cont : FVec F S32x128 .f32 → IVec S32x128 32 → TC F α) :
    (n k : Nat) → k + n ≤ 64 → FVec F S32x128 .f32 → IVec S32x128 32 → TC F α
  | 0, _, _, v, w => cont v w
  | n + 1, k, h, v, w => do
    let bv ← ldChunk b k (by omega)
    let xv ← ldChunk x k (by omega)
    vstepLex (vscoreOf (shapeCast S32x128 bv shapeCasts_S32x128_S32x128) xv) (ctr v0 v1 k) v w fun v w =>
      runLex x b v0 v1 cont n (k + 1) (by omega) v w

/-- The column that a row's lanes' best scores and counters give. -/
def vfinal (v0 : IVec S32x128 32) (v : FVec F S32x128 .f32) (w : IVec S32x128 32) : IVec S32x1 32 :=
  subi (shapeCast S32x1 (multiReductionI .minsi [1] S32 (select (cmpf .oeq v (broadcastTo S32x128
      (shapeCast S32x1 (multiReduction .maximumf [1] S32 v 0xFF800000#32 reduces_S32x128_S32 (.inl rfl) rfl) shapeCasts_S32_S32x1)
      broadcasts_S32x1_S32x128)) w (broadcast S32x128 2147483647#32)) 2147483647#32 reduces_S32x128_S32 rfl) shapeCasts_S32_S32x1)
    (extractStridedSlice S32x1 ![0, 0] v0 slices_S32x128_o0_0_S32x1)

/-- The second kernel up to its first chunk: at the first point the first kernel's results become the state. -/
def tc2Head (i : grid2.Coords) (a1 : Memref sig .tc .vmem S32x128 .i32) (a2 : Memref sig .tc .vmem S32x128 .f32) (a3 : Memref sig .tc .vmem S32x128 .i32)
    (a4 : Memref sig .tc .vmem S32x8192 .f32) (a5 : Memref sig .tc .vmem S32x8192 .i32)
    (a7 : Memref sig .tc .vmem S32x128 .f32) (a8 : Memref sig .tc .vmem S32x128 .i32) :
    TC F (Σ' (p : BitVec 32) (v0 : Vec F S32x128 .i32) (w : Vec F S32x128 .i32) (v1 : BitVec 32) (c : IVec S32x128 32) (u : IVec S32x128 1), FVec F S32x128 .f32) := do
  let v0 ← ld a1
  have p : BitVec 32 := BitVec.ofNat 32 (i 0).val
  if condOf .eq p 0#32 = 1#1 then do
    let iv ← ld a2
    let _ ← ld a7
    stF a7 (shapeCast S32x128 (shapeCast S32x128 iv shapeCasts_S32x128_S32x128) shapeCasts_S32x128_S32x128)
    let iw ← ld a3
    let _ ← ld a8
    stI a8 (shapeCast S32x128 (shapeCast S32x128 iw shapeCasts_S32x128_S32x128) shapeCasts_S32x128_S32x128)
    pure PUnit.unit
  else pure PUnit.unit
  let v ← ld a7
  let w ← ld a8
  have v1 := Scalar.addi 720896#32 (Scalar.muli p 8192#32)
  let bv ← ldChunk a5 0 (by omega)
  let xv ← ldChunk a4 0 (by omega)
  have s := vscoreOf (shapeCast S32x128 bv shapeCasts_S32x128_S32x128) xv
  have u := ori (cmpf .ogt s v) (andi (cmpf .oeq s v) (cmpi .slt (ctr v0 v1 0) w))
  pure ⟨p, v0, w, v1, ctr v0 v1 0, u, select u s v⟩

/-- The second kernel's chunks: the state is read, brought up to date and stored. -/
def tc2Loop (i : grid2.Coords) (a1 : Memref sig .tc .vmem S32x128 .i32) (a2 : Memref sig .tc .vmem S32x128 .f32) (a3 : Memref sig .tc .vmem S32x128 .i32)
    (a4 : Memref sig .tc .vmem S32x8192 .f32) (a5 : Memref sig .tc .vmem S32x8192 .i32)
    (a7 : Memref sig .tc .vmem S32x128 .f32) (a8 : Memref sig .tc .vmem S32x128 .i32) :
    TC F (Σ' (p : BitVec 32) (v0 : Vec F S32x128 .i32) (v : FVec F S32x128 .f32), IVec S32x128 32) := do
  let ⟨p, v0, w, v1, c, u, v⟩ ← tc2Head i a1 a2 a3 a4 a5 a7 a8
  runLex a4 a5 v0 v1 (fun v w => do
    let _ ← ld a7
    stF a7 (shapeCast S32x128 v shapeCasts_S32x128_S32x128)
    let _ ← ld a8
    stI a8 (shapeCast S32x128 w shapeCasts_S32x128_S32x128)
    pure ⟨p, v0, v, w⟩) 63 1 (by omega) v (select u c w)

/-- The second kernel's body. -/
def tc2 (i : grid2.Coords) (a1 : Memref sig .tc .vmem S32x128 .i32) (a2 : Memref sig .tc .vmem S32x128 .f32) (a3 : Memref sig .tc .vmem S32x128 .i32)
    (a4 : Memref sig .tc .vmem S32x8192 .f32) (a5 : Memref sig .tc .vmem S32x8192 .i32) (a6 : Memref sig .tc .vmem S32x1 .i32)
    (a7 : Memref sig .tc .vmem S32x128 .f32) (a8 : Memref sig .tc .vmem S32x128 .i32) : TC F PUnit := do
  let ⟨p, v0, v, w⟩ ← tc2Loop i a1 a2 a3 a4 a5 a7 a8
  if k2_cond2 i = 1#1 then do
    let _ ← (Prog.lift (.load a6 (Rect.unit (s := S32x1) ![0, 0] S32x1.size inb_S32x1_S32x1_0_0).toLoadRect (View.loadsAt_vmem h_S32x1)) :
      TC F (Vec F S32x1 .i32))
    Prog.lift (.store a6 (Rect.unit (s := S32x1) ![0, 0] S32x1.size inb_S32x1_S32x1_0_0) (vfinal v0 v w) Finset.univ (View.stores_vmem_bits_univ h_S32x1 rfl) (.inl rfl))
    pure PUnit.unit
  else pure PUnit.unit
  pure PUnit.unit

set_option maxRecDepth 1000000 in
/-- The second kernel's printed body is `tc2`. -/
theorem tc2_eq (i : grid2.Coords) (a1 : Memref sig .tc .vmem S32x128 .i32) (h1 : a1.IsWhole) (a2 : Memref sig .tc .vmem S32x128 .f32) (h2 : a2.IsWhole)
    (a3 : Memref sig .tc .vmem S32x128 .i32) (h3 : a3.IsWhole) (a4 : Memref sig .tc .vmem S32x8192 .f32) (h4 : a4.IsWhole)
    (a5 : Memref sig .tc .vmem S32x8192 .i32) (h5 : a5.IsWhole) (a6 : Memref sig .tc .vmem S32x1 .i32) (h6 : a6.IsWhole)
    (a7 : Memref sig .tc .vmem S32x128 .f32) (h7 : a7.IsWhole) (a8 : Memref sig .tc .vmem S32x128 .i32) (h8 : a8.IsWhole) :
    cc2__tc2_kernel (F := F) i a1 h1 a2 h2 a3 h3 a4 h4 a5 h5 a6 h6 a7 h7 a8 h8 = tc2 i a1 a2 a3 a4 a5 a6 a7 a8 := by
  sl_kernel_rfl

/-! The SparseCore kernel's body. -/

/-- The tile programs of the SparseCore kernel. -/
abbrev TV (F : FTy → Type) [FloatOps F] (i : grid0.Coords) := Prog (TpuEff nD τ sig (Elt F) Λ₀ (.scVector ((i 0).castLE hcore0) ((i 1).castLE hsub0)))

/-- The counters of the sixteen lanes that store `k` of a trip of the filling loop writes. -/
def scCtr (b0 : BitVec 32) (t : Fin k0_t2_loop.trips) (k : Nat) : IVec S16 32 :=
  addi (broadcast S16 (Scalar.addi (Scalar.addi b0 (Scalar.muli (Scf.iv 0#32 1#32 t) 128#32)) (BitVec.ofNat 32 (16 * k))))
    (iota .scVector S16 32 [0] iota_S16_d0_w32_scVector)

/-- The rectangle of that store. -/
abbrev scRect (t : Fin k0_t2_loop.trips) (k : Nat) (hk : k < 8) : Rect S4096 :=
  Rect.unit (s := S4096) (k0_off2 t (BitVec.ofNat 32 (16 * k))) S16.size (k0_off2_inb t ⟨k, hk⟩)

/-- The stores `k, …, k + n - 1` of a trip of the filling loop. -/
def fillTrip (i : grid0.Coords) (M : Memref sig .scVector .vmem S4096 .i32) (b0 : BitVec 32) (t : Fin k0_t2_loop.trips) :
    (n k : Nat) → k + n ≤ 8 → TV F i PUnit
  | 0, _, _ => pure PUnit.unit
  | n + 1, k, h => do
    let _ ← Prog.lift (.load M (scRect t k (by omega)).toLoadRect (View.loadsAt_vmem h_S16))
    Prog.lift (.store M (scRect t k (by omega)) (shapeCast S16 (vbits (scCtr b0 t k)) shapeCasts_S16_S16) Finset.univ
      (View.stores_vmem_bits_univ h_S16 rfl) (.inl rfl))
    fillTrip i M b0 t n (k + 1) (by omega)

/-- Fill a scratch buffer with the words of 4096 consecutive counters from `b0` on. -/
def fillBuf (i : grid0.Coords) (M : Memref sig .scVector .vmem S4096 .i32) (b0 : BitVec 32) : TV F i PUnit :=
  Scf.Loop.for k0_t2_loop k0_t2_ok PUnit.unit fun t _ => fillTrip i M b0 t 8 0 (by omega)

/-- The block of 4096 words of the output at given offsets. -/
abbrev rowAt (o : Memref sig .scVector .hbm S32x278528 .i32) (off : Fin 2 → Nat) (h : ∀ a, off a + S1x4096.size a ≤ S32x278528.size a) :
    Memref sig .scVector .hbm S4096 .i32 :=
  (o.slice (Rect.unit (s := S32x278528) off S1x4096.size h) (fun _ => rfl)).squeeze S4096 squeezes_S1x4096_S4096

/-- The number of a tile: the row it fills. -/
abbrev tileW (i : grid0.Coords) : BitVec 32 := Scalar.addi (Scalar.muli (BitVec.ofNat 32 (i 1).val) 2#32) (BitVec.ofNat 32 (i 0).val)

/-- The first counter of a trip of the outer loop. -/
abbrev trip0 (i : grid0.Coords) (t : Fin k0_t1_loop.trips) : BitVec 32 :=
  Scalar.addi (Scalar.addi (Scalar.muli (tileW i) 1000000#32) 720938#32) (Scalar.muli (Scf.iv 0#32 1#32 t) 8192#32)

/-- One trip of the outer loop. -/
def scTrip (i : grid0.Coords) (o : Memref sig .scVector .hbm S32x278528 .i32) (a : Memref sig .scVector .vmem S4096 .i32) (ha : a.IsWhole)
    (b : Memref sig .scVector .vmem S4096 .i32) (hb : b.IsWhole) (sa sb : DmaSems sig S_) (t : Fin k0_t1_loop.trips) : TV F i PUnit := do
  if h : k0_cond1 t = 1#1 then do
    Prog.lift (.waitDma2 sa.sem a (rowAt o (k0_off1 i) (k0_off1_inb i t h)) ha.wordExact ((View.wordExact_bits rfl).reshape _ _))
    pure PUnit.unit
  else pure PUnit.unit
  fillBuf i a (trip0 i t)
  Prog.lift (.enqueueDma a (.here (rowAt o (k0_off3 i t) (k0_off3_inb i t))) (.dma sa.sem) ha.wordExact ((View.wordExact_bits rfl).reshape _ _) ⟨Or.inl rfl, trivial⟩)
  if h : k0_cond2 t = 1#1 then do
    Prog.lift (.waitDma2 sb.sem b (rowAt o (k0_off4 i) (k0_off4_inb i t h)) hb.wordExact ((View.wordExact_bits rfl).reshape _ _))
    pure PUnit.unit
  else pure PUnit.unit
  fillBuf i b (Scalar.addi (trip0 i t) 4096#32)
  Prog.lift (.enqueueDma b (.here (rowAt o (k0_off6 i t) (k0_off6_inb i t))) (.dma sb.sem) hb.wordExact ((View.wordExact_bits rfl).reshape _ _) ⟨Or.inl rfl, trivial⟩)
  pure PUnit.unit

/-- The SparseCore kernel's body. -/
def scBody (i : grid0.Coords) (o : Memref sig .scVector .hbm S32x278528 .i32) (a : Memref sig .scVector .vmem S4096 .i32) (ha : a.IsWhole)
    (b : Memref sig .scVector .vmem S4096 .i32) (hb : b.IsWhole) (sa sb : DmaSems sig S_) : TV F i PUnit := do
  Scf.Loop.for k0_t1_loop k0_t1_ok PUnit.unit fun t _ => scTrip i o a ha b hb sa sb t
  Prog.lift (.waitDma2 sa.sem a (rowAt o (k0_off7 i) (k0_off7_inb i)) ha.wordExact ((View.wordExact_bits rfl).reshape _ _))
  Prog.lift (.waitDma2 sb.sem b (rowAt o (k0_off7 i) (k0_off7_inb i)) hb.wordExact ((View.wordExact_bits rfl).reshape _ _))
  pure PUnit.unit

set_option maxRecDepth 1000000 in
/-- The SparseCore kernel's printed body is `scBody`. -/
theorem scBody_eq (i : grid0.Coords) (o : Memref sig .scVector .hbm S32x278528 .i32) (ho : o.IsWhole) (a : Memref sig .scVector .vmem S4096 .i32) (ha : a.IsWhole)
    (b : Memref sig .scVector .vmem S4096 .i32) (hb : b.IsWhole) (sa sb : DmaSems sig S_) :
    cc0__sc_bits_body (F := F) i o ho a ha b hb sa sb = scBody i o a ha b hb sa sb := by
  sl_kernel_rfl

end

end Cert.Proof

end
-- ==== Proof.Setup.lean ====
/- What the run is stated over: the launch's configuration, its ghost state, the buffers, the words the SparseCore
   kernel writes, and what its handshakes carry. -/
module

public import proofs.«01_k».proof.Defs
public import proofs.«01_k».proof.Proof.Bodies
public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelines' calls. -/
abbrev ΛP : Labels := Pipeline.Sig Λ₀ (Fin 2) fun p => (pcfgs (F := F) p).Adm
/-- The launch's configuration. -/
abbrev K : SparseCore.Cfg τ sig (ΛP (F := F)) 1 := sc (F := F)
/-- A SparseCore has sixteen tiles. -/
theorem nSub_zero : (K (F := F)).nSub 0 = 16 := rfl
/-- There are two SparseCores. -/
theorem nCore_zero : (K (F := F)).nCore 0 = 2 := rfl
/-- The bodies the calls run. -/
abbrev D [FloatOps F] : Defs nD τ sig (Elt F) (ΛP (F := F)) := Pipeline.defs pcfgs defs₀
/-- No body has a variant. -/
abbrev 𝒱₀ : Variants := Variants.none
/-- The pipelines' variants. -/
abbrev 𝒱 : Variants := 𝒱₀.lift
/-- The tiles' bound. -/
abbrev v₀ : 𝒱.V := Sum.inl none

/-- The launch's semaphores are apart, and no shared buffer is a SparseCore's. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

/-- The handshakes' ghost state. -/
abbrev UH : Type := URounds (GSem nD τ sig) ℕ
/-- The pipelines' ghost state. -/
abbrev UP : Type := URounds (GSem nD τ sig) Unit
/-- All of it. -/
abbrev UU : Type := UH × (UP × Counters)

local notation "𝕄" => MT nD τ sig (HIx 1) (Elt F) ℕ UU ℕ

/-- Where the handshakes' ghost state lies. -/
abbrev EH : Emb UH (MT nD τ sig (HIx 1) (Elt F) ℕ UU ℕ) := embL

/-! ## The buffers -/

/-- The weights. -/
abbrev xLoc (d : Dev nD) : Loc nD τ sig := (SparseCore.T d).loc main_arg0
/-- The table of lanes' counters. -/
abbrev cLoc (d : Dev nD) : Loc nD τ sig := (SparseCore.T d).loc main_c
/-- The random words the SparseCores write. -/
abbrev oLoc (d : Dev nD) : Loc nD τ sig := (SparseCore.T d).loc main_v0

/-! ## The words -/

/-- One mixing step on a word. -/
def smix (a b x y : BitVec 32) : BitVec 32 := IntOp.xori x (IntOp.ori (IntOp.shli .vector y a) (IntOp.shrui .vector y b))

/-- Four rounds on two words. -/
def srounds (a0 b0 a1 b1 a2 b2 a3 b3 x0 y0 : BitVec 32) (k : BitVec 32 → BitVec 32 → BitVec 32) : BitVec 32 :=
  have x1 := IntOp.addi x0 y0
  have y1 := smix a0 b0 x1 y0
  have x2 := IntOp.addi x1 y1
  have y2 := smix a1 b1 x2 y1
  have x3 := IntOp.addi x2 y2
  have y3 := smix a2 b2 x3 y2
  have x4 := IntOp.addi x3 y3
  have y4 := smix a3 b3 x4 y3
  k x4 y4

/-- Adding a key schedule step's words. -/
def skey (c d x y : BitVec 32) (k : BitVec 32 → BitVec 32 → BitVec 32) : BitVec 32 := k (IntOp.addi x c) (IntOp.addi y d)

/-- The generator's word of a counter. -/
def bits (x : BitVec 32) : BitVec 32 :=
  have y1 := smix 13#32 19#32 x x
  have x2 := IntOp.addi x y1
  have y2 := smix 15#32 17#32 x2 y1
  have x3 := IntOp.addi x2 y2
  have y3 := smix 26#32 6#32 x3 y2
  have x4 := IntOp.addi x3 y3
  have y4 := smix 6#32 26#32 x4 y3
  skey 42#32 466689009#32 x4 y4 fun x y =>
  srounds 17#32 15#32 29#32 3#32 16#32 16#32 24#32 8#32 x y fun x y =>
  skey 466689008#32 2#32 x y fun x y =>
  srounds 13#32 19#32 15#32 17#32 26#32 6#32 6#32 26#32 x y fun x y =>
  srounds 17#32 15#32 29#32 3#32 16#32 16#32 24#32 8#32 x (IntOp.addi y 45#32) fun x y =>
  skey 42#32 466689012#32 x y fun x y =>
  srounds 13#32 19#32 15#32 17#32 26#32 6#32 6#32 26#32 x y fun x y =>
  skey 466689008#32 5#32 x y fun x y =>
  IntOp.xori x y

/-- A mixing step works entry by entry. -/
theorem vmix_apply {s : Shape} (a b : BitVec 32) (x y : IVec s 32) (j : s.Idx) : vmix a b x y j = smix a b (x j) (y j) := rfl

/-- Four rounds work entry by entry. -/
theorem vrounds_apply {s : Shape} (a0 b0 a1 b1 a2 b2 a3 b3 : BitVec 32) (x y : IVec s 32) (j : s.Idx) (k : IVec s 32 → IVec s 32 → IVec s 32)
    (k' : BitVec 32 → BitVec 32 → BitVec 32) (h : ∀ x y, k x y j = k' (x j) (y j)) :
    vrounds a0 b0 a1 b1 a2 b2 a3 b3 x y k j = srounds a0 b0 a1 b1 a2 b2 a3 b3 (x j) (y j) k' :=
  h _ _

/-- A key schedule step works entry by entry. -/
theorem vkey_apply {s : Shape} (c d : BitVec 32) (x y : IVec s 32) (j : s.Idx) (k : IVec s 32 → IVec s 32 → IVec s 32)
    (k' : BitVec 32 → BitVec 32 → BitVec 32) (h : ∀ x y, k x y j = k' (x j) (y j)) :
    vkey c d x y k j = skey c d (x j) (y j) k' :=
  h _ _

/-- The generator works entry by entry. -/
theorem vbits_apply {s : Shape} (x : IVec s 32) (j : s.Idx) : vbits x j = bits (x j) := by
  unfold vbits bits
  refine vkey_apply _ _ _ _ _ _ _ fun x y => ?_
  refine vrounds_apply _ _ _ _ _ _ _ _ _ _ _ _ _ fun x y => ?_
  refine vkey_apply _ _ _ _ _ _ _ fun x y => ?_
  refine vrounds_apply _ _ _ _ _ _ _ _ _ _ _ _ _ fun x y => ?_
  refine vrounds_apply _ _ _ _ _ _ _ _ _ _ _ _ _ fun x y => ?_
  refine vkey_apply _ _ _ _ _ _ _ fun x y => ?_
  refine vrounds_apply _ _ _ _ _ _ _ _ _ _ _ _ _ fun x y => ?_
  exact vkey_apply _ _ _ _ _ _ _ fun x y => rfl

/-- The word at row `w` and column `n` of the SparseCores' output. -/
def gWord (w n : Nat) : BitVec 32 := bits (BitVec.ofNat 32 (w * 1000000 + 720938 + n))

/-- The SparseCores' output. -/
def gBits : S32x278528.Idx → BitVec 32 := fun j => gWord (j 0).val (j 1).val

/-- Columns `lo ≤ n < hi` of row `w` of the output. -/
def colSet (w lo hi : Nat) : Finset S32x278528.Idx := Finset.univ.filter fun j => (j 0).val = w ∧ lo ≤ (j 1).val ∧ (j 1).val < hi

/-- What lies among those columns. -/
theorem mem_colSet {w lo hi : Nat} {j : S32x278528.Idx} : j ∈ colSet w lo hi ↔ (j 0).val = w ∧ lo ≤ (j 1).val ∧ (j 1).val < hi := by
  simp [colSet]

/-- Two adjacent runs of columns are apart. -/
theorem colSet_disjoint (w lo mid hi : Nat) : Disjoint (colSet w lo mid) (colSet w mid hi) :=
  Finset.disjoint_left.mpr fun j h1 h2 => by
    have h1 := (mem_colSet.mp h1).2.2
    have h2 := (mem_colSet.mp h2).2.1
    omega

/-- Two adjacent runs of columns are one. -/
theorem colSet_union {w lo mid hi : Nat} (h1 : lo ≤ mid) (h2 : mid ≤ hi) : colSet w lo mid ∪ colSet w mid hi = colSet w lo hi := by
  ext j; simp only [Finset.mem_union, mem_colSet]; constructor <;> intro h
  · rcases h with h | h <;> exact ⟨h.1, by omega, by omega⟩
  · rcases lt_or_ge (j 1).val mid with h' | h'
    · exact .inl ⟨h.1, h.2.1, h'⟩
    · exact .inr ⟨h.1, h', h.2.2⟩

/-- An empty run of columns. -/
theorem colSet_empty (w n : Nat) : colSet w n n = ∅ := by
  ext j; simp only [mem_colSet, Finset.notMem_empty, iff_false]; intro ⟨_, h1, h2⟩; omega

/-- A run of columns of the output held at given contents. -/
abbrev oPts (d : Dev nD) (w lo hi : Nat) (f : S32x278528.Idx → BitVec 32) : sProp 𝕄 :=
  oLoc d ↦[colSet w lo hi]{fullShare} (f : Buf (Elt F) (oLoc d))

/-- Adjacent runs of columns join. -/
theorem oPts_join (d : Dev nD) {w lo mid hi : Nat} (f : S32x278528.Idx → BitVec 32) (h1 : lo ≤ mid) (h2 : mid ≤ hi) :
    iprop(oPts d w lo mid f ∗ oPts d w mid hi f) ⊢ (oPts d w lo hi f : sProp 𝕄) := by
  rw [show (oPts d w lo hi f : sProp 𝕄) = oLoc d ↦[colSet w lo mid ∪ colSet w mid hi]{fullShare} (f : Buf (Elt F) (oLoc d)) by
    rw [colSet_union h1 h2]]
  exact (pointsTo_union (colSet_disjoint w lo mid hi)).2

/-- A run of columns splits into adjacent ones. -/
theorem oPts_split (d : Dev nD) {w lo mid hi : Nat} (f : S32x278528.Idx → BitVec 32) (h1 : lo ≤ mid) (h2 : mid ≤ hi) :
    (oPts d w lo hi f : sProp 𝕄) ⊢ iprop(oPts d w lo mid f ∗ oPts d w mid hi f) := by
  rw [show (oPts d w lo hi f : sProp 𝕄) = oLoc d ↦[colSet w lo mid ∪ colSet w mid hi]{fullShare} (f : Buf (Elt F) (oLoc d)) by
    rw [colSet_union h1 h2]]
  exact (pointsTo_union (colSet_disjoint w lo mid hi)).1

/-- No columns are nothing. -/
theorem oPts_empty (d : Dev nD) (w n : Nat) (f : S32x278528.Idx → BitVec 32) : (iprop(emp) : sProp 𝕄) ⊢ oPts d w n n f := by
  have h : (oPts d w n n f : sProp 𝕄) = oLoc d ↦[(∅ : Finset (Idx (oLoc d)))]{fullShare} (f : Buf (Elt F) (oLoc d)) :=
    congrArg (fun s : Finset (Idx (oLoc d)) => (oLoc d ↦[s]{fullShare} (f : Buf (Elt F) (oLoc d)) : sProp 𝕄)) (colSet_empty w n)
  rw [h, pointsTo_empty]

/-! ## What the handshakes carry -/

variable (m : (ℓ : Loc nD τ sig) → Buf (Elt F) ℓ)

/-- Row `w` of the output as the launch finds it. -/
abbrev rowIn (d : Dev nD) (w : Nat) : sProp 𝕄 := oPts d w 0 278528 (m (oLoc d))
/-- Row `w` of the output with its random words. -/
abbrev rowOut (d : Dev nD) (w : Nat) : sProp 𝕄 := oPts (F := F) d w 0 278528 gBits

/-- The call takes the output's rows and gives them back with their words: tile `i` of SparseCore `c` has row `2 i + c`. -/
def P : (K (F := F)).Pay (nD := nD) (Val := Elt F) (Name := ℕ) (U := UU) where
  st := fun q d c => match q with | 0 => bigSep Finset.univ fun i : Fin 16 => rowIn m d (2 * i.val + c.val)
  dn := fun q d c => match q with | 0 => bigSep Finset.univ fun i : Fin 16 => rowOut d (2 * i.val + c.val)
  go := fun q d c i => match q with | 0 => rowIn m d (2 * i.val + c.val)
  td := fun q d c i => match q with | 0 => rowOut d (2 * i.val + c.val)
  x := fun _ _ => iprop(emp)

instance P_storable : (P (F := F) m).IsStorable where
  st q d c := match q with
    | 0 => (inferInstance : BI.Storable (upEmb : UEmb _ 𝕄) (bigSep Finset.univ fun i : Fin 16 => rowIn m d (2 * i.val + c.val)))
  dn q d c := match q with
    | 0 => (inferInstance : BI.Storable (upEmb : UEmb _ 𝕄) (bigSep Finset.univ fun i : Fin 16 => rowOut (F := F) d (2 * i.val + c.val)))
  go q d c i := match q with
    | 0 => (inferInstance : BI.Storable (upEmb : UEmb _ 𝕄) (rowIn m d (2 * i.val + c.val)))
  td q d c i := match q with
    | 0 => (inferInstance : BI.Storable (upEmb : UEmb _ 𝕄) (rowOut (F := F) d (2 * i.val + c.val)))

/-- A SparseCore's rows are its tiles'. -/
theorem vecSplit [FloatOps F] : (K (F := F)).VecSplit' (P m) 0 := by
  intro d c
  show (bigSep Finset.univ fun i : Fin 16 => rowIn m d (2 * i.val + c.val)) ⊢ |={Set.univ}=> iprop(
      (bigSep Finset.univ fun i : Fin 16 => rowIn m d (2 * i.val + c.val))
      ∗ ((bigSep Finset.univ fun i : Fin 16 => rowOut (F := F) d (2 * i.val + c.val))
          -∗ bigSep Finset.univ fun i : Fin 16 => rowOut (F := F) d (2 * i.val + c.val)))
  iintro H; imodintro
  isplitl [H]; · iexact H
  iintro H; iexact H

end Cert.Proof

end
-- ==== Proof.Fill.lean ====
/- Loads and stores by what a memref reads, and the SparseCore kernel's filling of a scratch buffer. -/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Loads and stores by what a memref reads -/

section Owns

variable {Λ : Labels} {defs : Defs nD τ sig (Elt F) Λ} (𝒱 : Variants) (c : Thread nD τ) (bd : Option 𝒱.V)

/-- A load through a rectangle gives the entries there of what the memref reads. -/
theorem wp_load_owns {α : Type} {cs : CoreSpace} {s : Shape} {e : EltTy} {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e} {Q : α → sProp 𝕄} :
    (owns c m q X : sProp 𝕄)
      ⊢ iprop((owns c m q X -∗ wp frame (wpE defs 𝒱 c bd) Set.univ (k fun x => X (r.emb x)) Q)
        -∗ wp frame (wpE defs 𝒱 c bd) Set.univ (.op (.load m r.toLoadRect hl) k) Q) := by
  unfold owns
  iintro ⟨%f, %hf, H⟩ Hk
  subst hf
  iapply (wp_load_rect 𝒱 c bd Set.univ (m.view.set_slice_subset r)) $$ H
  iintro H
  iapply Hk
  iexists f; isplitr; · ipureintro; rfl
  iexact H

/-- A store through a rectangle replaces the entries there. -/
theorem wp_store_owns {α : Type} {cs : CoreSpace} {s : Shape} {e : EltTy} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) Λ c.2) α} {X : s.Idx → Elt F e} {Q : α → sProp 𝕄} :
    (owns c m fullShare X : sProp 𝕄)
      ⊢ iprop((∀ X', ⌜(∀ x, X' (r.emb x) = w x) ∧ ∀ y, y ∉ r.set → X' y = X y⌝ -∗ owns c m fullShare X' -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  subst hf
  iapply (wp_store_writes₀ 𝒱 c bd Set.univ (m.view.set_slice_subset r)) $$ H
  iintro H
  iapply Hk $$ %(m.view.read (Elt F) (m.view.writes (Elt F) f [⟨r, w⟩]))
  · ipureintro
    exact ⟨fun x => View.read_writes_cons_emb m.view f r w [] x, fun y hy => View.read_writes_cons_miss m.view f ⟨r, w⟩ [] y hy⟩
  · iexists _; isplitr
    swap; · iexact H
    ipureintro; rfl

end Owns

/-! ## Filling a scratch buffer -/

section Fill

variable (d : Dev nD) (L : grid0.Coords)

/-- The SparseCore of a tile's coordinates. -/
abbrev cV (L : grid0.Coords) : Fin τ.nSC := (L 0).castLE hcore0
/-- The tile of a tile's coordinates. -/
abbrev jV (L : grid0.Coords) : Fin τ.nSub := (L 1).castLE hsub0
/-- The thread of a tile. -/
abbrev thr (d : Dev nD) (L : grid0.Coords) : Thread nD τ := V d (cV L) (jV L)

variable (M : Memref sig .scVector .vmem S4096 .i32)

/-- The first `n` words of a buffer are the generator's of the counters from `b0`. -/
def Filled (b0 : BitVec 32) (n : Nat) (X : S4096.Idx → BitVec 32) : Prop := ∀ j : S4096.Idx, (j 0).val < n → X j = bits (b0 + BitVec.ofNat 32 (j 0).val)

omit [FloatOps F] in
/-- The words a store of the filling loop writes. -/
theorem fill_word (b0 : BitVec 32) (t : Fin k0_t2_loop.trips) (k : Nat) (x : S16.Idx) :
    shapeCast S16 (vbits (scCtr b0 t k)) shapeCasts_S16_S16 x = bits (b0 + BitVec.ofNat 32 (128 * t.val + 16 * k + (x 0).val)) := by
  rw [shapeCast_self, vbits_apply]
  congr 1
  show (b0 + (0#32 + BitVec.ofNat 32 t.val * 1#32) * 128#32 + BitVec.ofNat 32 (16 * k)) + BitVec.ofNat 32 (0 * 16 + (x 0).val) = _
  apply BitVec.eq_of_toNat_eq
  simp only [BitVec.toNat_add, BitVec.toNat_mul, BitVec.toNat_ofNat]
  omega

omit [FloatOps F] in
/-- A store of the filling loop extends the filled part by sixteen words. -/
theorem fill_step {b0 : BitVec 32} {t : Fin k0_t2_loop.trips} {k : Nat} {hk : k < 8} {X X' : S4096.Idx → BitVec 32} (h : Filled b0 (128 * t.val + 16 * k) X)
    (h1 : ∀ x, X' ((scRect t k hk).emb x) = shapeCast S16 (vbits (scCtr b0 t k)) shapeCasts_S16_S16 x) (h2 : ∀ y, y ∉ (scRect t k hk).set → X' y = X y) :
    Filled b0 (128 * t.val + 16 * (k + 1)) X' := by
  have hoff : (scRect t k hk).off 0 = 128 * t.val + 16 * k := congrFun (k0_off2_eq t ⟨k, hk⟩) 0
  intro j hj
  by_cases hlt : (j 0).val < 128 * t.val + 16 * k
  · rw [h2 j (Rect.not_mem_set_of_axis _ j 0 _ 16 hoff rfl rfl (.inl hlt)), h j hlt]
  · have he : (scRect t k hk).emb (fun a => ⟨(j 0).val - (128 * t.val + 16 * k), by have : S16.size a = 16 := (by fin_cases a; rfl); omega⟩ : S16.Idx) = j :=
      Rect.emb_eq_of_coords _ _ _ fun a => by
        match a with
        | 0 => rw [hoff]; show _ = _ + 1 * (_ - _); omega
    rw [← he, h1, fill_word, he]
    congr 3
    show 128 * t.val + 16 * k + ((j 0).val - (128 * t.val + 16 * k)) = _
    omega

/-- A trip's stores `k, …, k + n - 1` fill the words up to `128 t + 16 (k + n)`. -/
theorem wp_fillTrip (b0 : BitVec 32) (t : Fin k0_t2_loop.trips) : ∀ (n k : Nat) (h : k + n ≤ 8) (X : S4096.Idx → BitVec 32), Filled b0 (128 * t.val + 16 * k) X →
    (owns (thr d L) M fullShare X : sProp 𝕄)
      ⊢ wp frame (wpE (defs₀ (F := F)) 𝒱₀ (thr d L) none) Set.univ (fillTrip L M b0 t n k h)
          fun _ => iprop(∃ X', ⌜Filled b0 (128 * t.val + 16 * (k + n)) X'⌝ ∗ owns (thr d L) M fullShare X')
  | 0, k, h, X, hX => by
    rw [fillTrip, wp_pure]
    iintro H; imodintro
    iexists X; isplitr; · ipureintro; exact hX
    iexact H
  | n + 1, k, h, X, hX => by
    rw [fillTrip]
    simp only [Prog.bind_lift]
    iintro H
    iapply (wp_load_owns 𝒱₀ (thr d L) none) $$ H
    iintro H
    iapply (wp_store_owns 𝒱₀ (thr d L) none) $$ H
    iintro %X' %hX' H
    have hX'' := fill_step hX hX'.1 hX'.2
    rw [show k + (n + 1) = (k + 1) + n by omega]
    iapply (wp_fillTrip b0 t n (k + 1) _ X' hX'') $$ H

/-- The filling loop fills the buffer. -/
theorem wp_fillBuf (b0 : BitVec 32) :
    (iprop(∃ X, owns (thr d L) M fullShare X) : sProp 𝕄)
      ⊢ wp frame (wpE (defs₀ (F := F)) 𝒱₀ (thr d L) none) Set.univ (fillBuf L M b0)
          fun _ => owns (thr d L) M fullShare fun j => bits (b0 + BitVec.ofNat 32 (j 0).val) := by
  have hb : ∀ (t : Fin k0_t2_loop.trips) (_ : PUnit), (iprop(∃ X, ⌜Filled b0 (128 * t.val) X⌝ ∗ owns (thr d L) M fullShare X) : sProp 𝕄)
      ⊢ wp frame (wpE (defs₀ (F := F)) 𝒱₀ (thr d L) none) Set.univ (fillTrip L M b0 t 8 0 (by omega))
          fun _ => iprop(∃ X, ⌜Filled b0 (128 * (t.val + 1)) X⌝ ∗ owns (thr d L) M fullShare X) := by
    intro t _
    iintro ⟨%X, %hX, H⟩
    iapply (wp_fillTrip d L M b0 t 8 0 _ X hX) $$ H
  unfold fillBuf
  iintro ⟨%X, H⟩
  iapply (Scf.wp_for frame (wpE (defs₀ (F := F)) 𝒱₀ (thr d L) none) Set.univ _ _ _ k0_t2_ok PUnit.unit _
    (fun k _ => iprop(∃ X, ⌜Filled b0 (128 * k) X⌝ ∗ owns (thr d L) M fullShare X)) hb)
  isplitl [H]
  · iexists X; isplitr; · ipureintro; intro j hj; omega
    iexact H
  iintro %_ ⟨%X, %hX, H⟩
  rw [show (fun j : S4096.Idx => bits (b0 + BitVec.ofNat 32 (j 0).val)) = X from funext fun j => (hX j (by
    have h1 : k0_t2_loop.trips = 32 := rfl
    have h2 : (j 0).val < 4096 := (j 0).isLt
    show _ < 128 * k0_t2_loop.trips
    omega)).symm]
  iexact H

end Fill

end Cert.Proof

end
-- ==== Proof.Table.lean ====
/- The table of first counters that the program carries as a literal. -/
module

public import proofs.«01_k».proof.KernelIdeal

@[expose] public section

noncomputable section

namespace Cert.Proof

open Cert.KernelIdeal
open Idealize.ShloMosaic

/-- The table of first counters: row `r` starts at a million times `r`, plus 42. -/
def vBase : IVec S32x128 32 := fun j => BitVec.ofNat 32 ((j 0).val * 1000000 + (j 1).val + 42)

/-- The literal's entries. -/
theorem lit0t_eq : ∀ i : Fin 4096, lit0 i = BitVec.ofNat 32 (i.val / 128 * 1000000 + i.val % 128 + 42) := by decide +kernel

/-- The printed table. -/
theorem lit0_eq : (fun i => lit0 (S32x128.rowMajor i)) = vBase := by
  funext j
  refine (lit0t_eq (S32x128.rowMajor j)).trans ?_
  have h1 : (j 1).val < 128 := (j 1).isLt
  have e : (S32x128.rowMajor j).val = (j 0).val * 128 + (j 1).val := Shape.rowMajor_val_two j
  rw [e, show ((j 0).val * 128 + (j 1).val) / 128 = (j 0).val by omega, show ((j 0).val * 128 + (j 1).val) % 128 = (j 1).val by omega]
  rfl

end Cert.Proof

end
-- ==== Proof.Values.lean ====
/- What the two TensorCore kernels compute, as functions of the argument: a state of one best score and its counter per
   lane, brought up to date chunk by chunk. -/
module

public import proofs.«01_k».proof.Proof.Setup
public import proofs.«01_k».proof.Proof.Table

@[expose] public section

noncomputable section

namespace Cert.Proof

open Cert.KernelIdeal Cert.KernelIdeal.Gen
open Idealize.ShloMosaic

variable {F : FTy → Type} [FloatOps F]

/-- A state: a score and a counter for each lane of each row. -/
abbrev LState (F : FTy → Type) := FVec F S32x128 .f32 × IVec S32x128 32

/-- The argument's entry at row `r` and column `c`, zero outside it. -/
def xAt (X : S32x1000000.Idx → F .f32) (r c : Nat) : F .f32 :=
  if h : r < 32 ∧ c < 1000000 then X (fun a => ⟨(![r, c] : Fin 2 → Nat) a, by fin_cases a; exacts [h.1, h.2]⟩) else Scalar.ofBits .f32 0#32

/-- The argument's columns `128 n …`. -/
def chX (X : S32x1000000.Idx → F .f32) (n : Nat) : FVec F S32x128 .f32 := fun j => xAt X (j 0).val (n * 128 + (j 1).val)

/-- The counters of columns `128 n …`. -/
def chC (n : Nat) : IVec S32x128 32 := fun j => BitVec.ofNat 32 ((j 0).val * 1000000 + (n * 128 + (j 1).val) + 42)

/-- The scores of columns `128 n …`. -/
def chS (X : S32x1000000.Idx → F .f32) (n : Nat) : FVec F S32x128 .f32 := vscore (chC n) (chX X n)

/-- The chunks `k, …, k + n - 1`, each replacing the state where `f` says. -/
def accN (f : Nat → LState F → LState F) : (n k : Nat) → LState F → LState F
  | 0, _, s => s
  | n + 1, k, s => accN f n (k + 1) (f k s)

/-- A chunk replaces the state where its score is larger. -/
def stepGt (s : LState F) (t : LState F) : LState F := vstep s.1 s.2 t.1 t.2 Prod.mk

/-- A chunk replaces the state where its score is larger, or equal with a smaller counter. -/
def stepLex (s : LState F) (t : LState F) : LState F := vstepLex s.1 s.2 t.1 t.2 Prod.mk

variable (X : S32x1000000.Idx → F .f32)

/-- A chunk's scores and counters. -/
def chunk (n : Nat) : LState F := (chS X n, chC n)

/-- Thirty-two chunks from chunk `n` on. -/
def half32 (n : Nat) : LState F := accN (fun k s => stepGt (chunk X k) s) 31 (n + 1) (chunk X n)

/-- The chunks of point `p` of the first kernel. -/
def point1 (p : Nat) : LState F := stepGt (half32 X (64 * p + 32)) (half32 X (64 * p))

/-- The first kernel's state after points `0, …, p`. -/
def state1 : Nat → LState F
  | 0 => point1 X 0
  | p + 1 => stepGt (point1 X (p + 1)) (state1 p)

/-- The lane's number in its row, as the first kernel computes it. -/
def vLane : IVec S32x128 32 :=
  subi vBase (broadcastTo S32x128 (extractStridedSlice S32x1 ![0, 0] vBase slices_S32x128_o0_0_S32x1) broadcasts_S32x1_S32x128)

/-- The scores of chunk `k` of the tail, the least where its columns do not count. -/
def tailS (k : Nat) (xv : FVec F S32x128 .f32) : FVec F S32x128 .f32 :=
  select (cmpi .slt vLane (broadcast S32x128 (BitVec.ofNat 32 (576 + 4294967296 - k * 128)))) (vscore (chC (7808 + k)) xv)
    (broadcast S32x128 (Scalar.ofBits .f32 0xFF800000#32))

/-- What the first kernel writes. -/
def result1 : LState F := accN (fun k s => stepGt (tailS k (chX X (7808 + k)), chC (7808 + k)) s) 8 0 (state1 X 87)

/-- The second kernel's state before point `p`. -/
def state2 : Nat → LState F
  | 0 => result1 X
  | p + 1 => accN (fun k s => stepLex (chunk X k) s) 64 (64 * (88 + p)) (state2 p)

/-- What the second kernel writes: the sampled column of each row. -/
def result2 : IVec S32x1 32 := vfinal vBase (state2 X 34).1 (state2 X 34).2

/-! ## The words -/

/-- A chunk's counters, from the table. -/
theorem chC_eq (n : Nat) : addi vBase (broadcast S32x128 (BitVec.ofNat 32 (n * 128))) = chC n := by
  funext j
  show BitVec.ofNat 32 _ + BitVec.ofNat 32 _ = BitVec.ofNat 32 _
  rw [← BitVec.ofNat_add]
  exact congrArg (BitVec.ofNat 32) (by ring)

/-- The counters of chunk `k` of a point of the first kernel. -/
theorem ctr1_eq (p k : Nat) : ctr vBase (Scalar.muli (BitVec.ofNat 32 p) 8192#32) k = chC (64 * p + k) := by
  rw [← chC_eq]
  unfold ctr
  refine congrArg (fun b => addi vBase (broadcast S32x128 b)) ?_
  show BitVec.ofNat 32 _ * BitVec.ofNat 32 _ + BitVec.ofNat 32 _ = BitVec.ofNat 32 _
  rw [← BitVec.ofNat_mul, ← BitVec.ofNat_add]
  exact congrArg (BitVec.ofNat 32) (by ring)

/-- The counters of chunk `k` of a point of the second kernel. -/
theorem ctr2_eq (p k : Nat) : ctr vBase (Scalar.addi 720896#32 (Scalar.muli (BitVec.ofNat 32 p) 8192#32)) k = chC (64 * (88 + p) + k) := by
  rw [← chC_eq]
  unfold ctr
  refine congrArg (fun b => addi vBase (broadcast S32x128 b)) ?_
  show BitVec.ofNat 32 _ + BitVec.ofNat 32 _ * BitVec.ofNat 32 _ + BitVec.ofNat 32 _ = BitVec.ofNat 32 _
  rw [← BitVec.ofNat_mul, ← BitVec.ofNat_add, ← BitVec.ofNat_add]
  exact congrArg (BitVec.ofNat 32) (by ring)

/-- The SparseCores' words of a chunk are the generator's of its counters. -/
theorem gWord_chunk (p k : Nat) : (fun j : S32x128.Idx => gWord (j 0).val (8192 * p + (k * 128 + (j 1).val))) = vbits (chC (64 * (88 + p) + k)) := by
  funext j
  rw [vbits_apply]
  unfold gWord chC
  exact congrArg (fun n => bits (BitVec.ofNat 32 n)) (by ring)

/-- A score depends on the argument's entry at its own lane. -/
theorem vscore_congr (c : IVec S32x128 32) {x y : FVec F S32x128 .f32} {j : S32x128.Idx} (h : x j = y j) : vscore c x j = vscore c y j := by
  unfold vscore vscoreOf
  show FloatOps.addf _ (FloatOps.log (x j)) = FloatOps.addf _ (FloatOps.log (y j))
  rw [h]

end Cert.Proof

end
-- ==== Proof.Steps.lean ====
/- Loads, stores and runs of chunks on the TensorCore, by what the buffers hold. -/
module

public import proofs.«01_k».proof.Proof.Fill
public import proofs.«01_k».proof.Proof.Values
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Steps

variable (d : Dev nD)

/-- The TensorCore's thread. -/
abbrev tcT (d : Dev nD) : Thread nD τ := d.tc

/-- A buffer of the TensorCore at given contents. -/
abbrev own {cs : CoreSpace} {s : Shape} {e : EltTy} (M : Memref sig .tc cs s e) (X : s.Idx → Elt F e) : sProp 𝕄 := owns (tcT d) M fullShare X

/-- A TensorCore program's weakest precondition. -/
abbrev wpT {α : Type} (p : TC F α) (Q : α → sProp 𝕄) : sProp 𝕄 := wp frame (wpE (defs₀ (F := F)) 𝒱₀ (tcT d) none) Set.univ p Q

omit [FloatOps F] in
/-- The whole rectangle at offset zero is the identity. -/
theorem emb_zero {s : Shape} (off : Fin s.rank → Nat) (h0 : ∀ a, off a = 0) (h : ∀ a, off a + s.size a ≤ s.size a) (x : s.Idx) :
    (Rect.unit (s := s) off s.size h).emb x = x := by
  funext a
  apply Fin.ext
  rw [Rect.emb_apply]
  show off a + 1 * (x a).val = (x a).val
  rw [h0]; omega

/-- Loading a whole buffer. -/
theorem wp_ld {e : EltTy} {M : Memref sig .tc .vmem S32x128 e} {α : Type} {k : Vec F S32x128 e → TC F α} {X : S32x128.Idx → Elt F e} {Q : α → sProp 𝕄} :
    own d M X ⊢ iprop((own d M X -∗ wpT d (k X) Q) -∗ wpT d (ld M >>= k) Q) := by
  unfold ld
  simp only [Prog.bind_lift]
  have h : (fun x => X ((Rect.unit (s := S32x128) ![0, 0] S32x128.size inb_S32x128_S32x128_0_0).emb x)) = X :=
    funext fun x => congrArg X (emb_zero (s := S32x128) _ (by intro a; fin_cases a <;> rfl) _ x)
  iintro H Hk
  iapply (wp_load_owns 𝒱₀ (tcT d) none) $$ H
  rw [h]
  iexact Hk

/-- Storing a whole buffer of floats. -/
theorem wp_stF {M : Memref sig .tc .vmem S32x128 .f32} {α : Type} {k : PUnit → TC F α} {w : Vec F S32x128 .f32} {X : S32x128.Idx → Elt F .f32} {Q : α → sProp 𝕄} :
    own d M X ⊢ iprop((own d M w -∗ wpT d (k ⟨⟩) Q) -∗ wpT d (stF M w >>= k) Q) := by
  unfold stF
  simp only [Prog.bind_lift]
  iintro H Hk
  iapply (wp_store_owns 𝒱₀ (tcT d) none) $$ H
  iintro %X' %hX' H
  obtain rfl : X' = w := funext fun x => by
    rw [← hX'.1 x]; exact congrArg X' (emb_zero (s := S32x128) _ (by intro a; fin_cases a <;> rfl) _ x).symm
  iapply Hk $$ H

/-- Storing a whole buffer of words. -/
theorem wp_stI {M : Memref sig .tc .vmem S32x128 .i32} {α : Type} {k : PUnit → TC F α} {w : Vec F S32x128 .i32} {X : S32x128.Idx → Elt F .i32} {Q : α → sProp 𝕄} :
    own d M X ⊢ iprop((own d M w -∗ wpT d (k ⟨⟩) Q) -∗ wpT d (stI M w >>= k) Q) := by
  unfold stI
  simp only [Prog.bind_lift]
  iintro H Hk
  iapply (wp_store_owns 𝒱₀ (tcT d) none) $$ H
  iintro %X' %hX' H
  obtain rfl : X' = w := funext fun x => by
    rw [← hX'.1 x]; exact congrArg X' (emb_zero (s := S32x128) _ (by intro a; fin_cases a <;> rfl) _ x).symm
  iapply Hk $$ H

/-- Loading a chunk of a window of 8192 columns. -/
theorem wp_ldChunk {e : EltTy} {M : Memref sig .tc .vmem S32x8192 e} {k : Nat} {hk : k < 64} {α : Type} {f : Vec F S32x128 e → TC F α}
    {X : S32x8192.Idx → Elt F e} {Y : S32x128.Idx → Elt F e} (hY : ∀ x, X ((Rect.unit (s := S32x8192) ![0, k * 128] S32x128.size (inb_chunk k hk)).emb x) = Y x)
    {Q : α → sProp 𝕄} :
    own d M X ⊢ iprop((own d M X -∗ wpT d (f Y) Q) -∗ wpT d (ldChunk M k hk >>= f) Q) := by
  unfold ldChunk
  simp only [Prog.bind_lift]
  obtain rfl : (fun x => X ((Rect.unit (s := S32x8192) ![0, k * 128] S32x128.size (inb_chunk k hk)).emb x)) = Y := funext hY
  exact wp_load_owns 𝒱₀ (tcT d) none

/-- Loading a chunk of the tail. -/
theorem wp_ldTail {e : EltTy} {M : Memref sig .tc .vmem S32x1024 e} {k : Nat} {hk : k < 8} {α : Type} {f : Vec F S32x128 e → TC F α}
    {X : S32x1024.Idx → Elt F e} {Y : S32x128.Idx → Elt F e} (hY : ∀ x, X ((Rect.unit (s := S32x1024) ![0, k * 128] S32x128.size (inb_tailChunk k hk)).emb x) = Y x)
    {Q : α → sProp 𝕄} :
    own d M X ⊢ iprop((own d M X -∗ wpT d (f Y) Q) -∗ wpT d (ldTail M k hk >>= f) Q) := by
  unfold ldTail
  simp only [Prog.bind_lift]
  obtain rfl : (fun x => X ((Rect.unit (s := S32x1024) ![0, k * 128] S32x128.size (inb_tailChunk k hk)).emb x)) = Y := funext hY
  exact wp_load_owns 𝒱₀ (tcT d) none

variable (X : S32x1000000.Idx → F .f32)

/-- A window of 8192 columns that holds the argument's from column `128 n` on. -/
def IsCols (n : Nat) (Y : S32x8192.Idx → F .f32) : Prop := ∀ j, Y j = xAt X (j 0).val (n * 128 + (j 1).val)

omit [FloatOps F] in
theorem chunk_emb {k : Nat} (hk : k < 64) (x : S32x128.Idx) :
    (((Rect.unit (s := S32x8192) ![0, k * 128] S32x128.size (inb_chunk k hk)).emb x) 0).val = (x 0).val ∧
    (((Rect.unit (s := S32x8192) ![0, k * 128] S32x128.size (inb_chunk k hk)).emb x) 1).val = k * 128 + (x 1).val := by
  constructor <;> rw [Rect.emb_apply]
  · show 0 + 1 * (x 0).val = _; omega
  · show k * 128 + 1 * (x 1).val = _; omega

omit [FloatOps F] in
theorem tail_emb {k : Nat} (hk : k < 8) (x : S32x128.Idx) :
    (((Rect.unit (s := S32x1024) ![0, k * 128] S32x128.size (inb_tailChunk k hk)).emb x) 0).val = (x 0).val ∧
    (((Rect.unit (s := S32x1024) ![0, k * 128] S32x128.size (inb_tailChunk k hk)).emb x) 1).val = k * 128 + (x 1).val := by
  constructor <;> rw [Rect.emb_apply]
  · show 0 + 1 * (x 0).val = _; omega
  · show k * 128 + 1 * (x 1).val = _; omega

/-- A chunk of such a window. -/
theorem IsCols.chunk {n : Nat} {Y : S32x8192.Idx → F .f32} (h : IsCols X n Y) {k : Nat} (hk : k < 64) (x : S32x128.Idx) :
    Y ((Rect.unit (s := S32x8192) ![0, k * 128] S32x128.size (inb_chunk k hk)).emb x) = chX X (n + k) x := by
  rw [h, (chunk_emb hk x).1, (chunk_emb hk x).2]
  unfold chX
  rw [show n * 128 + (k * 128 + (x 1).val) = (n + k) * 128 + (x 1).val by ring]

/-- A run of chunks of the first kernel. -/
theorem wp_runChunks {M : Memref sig .tc .vmem S32x8192 .f32} {p : Nat} {Y : S32x8192.Idx → F .f32} (hY : IsCols X (64 * p) Y) {α : Type}
    (cont : FVec F S32x128 .f32 → IVec S32x128 32 → TC F α) {Q : α → sProp 𝕄} :
    ∀ (n k : Nat) (h : k + n ≤ 64) (s : LState F),
      own d M Y ⊢ iprop((own d M Y -∗ wpT d (cont (accN (fun k s => stepGt (chunk X k) s) n (64 * p + k) s).1 (accN (fun k s => stepGt (chunk X k) s) n (64 * p + k) s).2) Q)
        -∗ wpT d (runChunks M vBase (Scalar.muli (BitVec.ofNat 32 p) 8192#32) cont n k h s.1 s.2) Q)
  | 0, k, h, s => by
    unfold runChunks accN
    iintro H Hk
    iapply Hk $$ H
  | n + 1, k, h, s => by
    unfold runChunks accN
    rw [ctr1_eq]
    iintro H Hk
    iapply (wp_ldChunk d (e := .f32) (k := k) (Y := chX X (64 * p + k)) (hY.chunk X (show k < 64 by omega))) $$ H
    iintro H
    iapply (wp_runChunks hY cont n (k + 1) _ (stepGt (chunk X (64 * p + k)) s)) $$ H
    iexact Hk

/-- A half of a point of the first kernel. -/
theorem wp_half {M : Memref sig .tc .vmem S32x8192 .f32} {p : Nat} {Y : S32x8192.Idx → F .f32} (hY : IsCols X (64 * p) Y) {α : Type}
    {cont : FVec F S32x128 .f32 → IVec S32x128 32 → TC F α} {k : Nat} {hk : k + 32 ≤ 64} {Q : α → sProp 𝕄} :
    own d M Y ⊢ iprop((own d M Y -∗ wpT d (cont (half32 X (64 * p + k)).1 (half32 X (64 * p + k)).2) Q)
      -∗ wpT d (half M vBase (Scalar.muli (BitVec.ofNat 32 p) 8192#32) k hk cont) Q) := by
  unfold half
  rw [ctr1_eq]
  iintro H Hk
  iapply (wp_ldChunk d (e := .f32) (k := k) (Y := chX X (64 * p + k)) (hY.chunk X (show k < 64 by omega))) $$ H
  iintro H
  iapply (wp_runChunks d X hY cont 31 (k + 1) _ (chunk X (64 * p + k))) $$ H
  iexact Hk

/-- The tail's window: the argument's last 576 columns, anything beyond. -/
def IsTail (Y : S32x1024.Idx → F .f32) : Prop := ∀ j, (j 1).val < 576 → Y j = xAt X (j 0).val (999424 + (j 1).val)

omit [FloatOps F] in
/-- A row's first entry, in every lane. -/
theorem firstCol_apply {α : Type} (x : S32x128.Idx → α) (j : S32x128.Idx) :
    ∃ i : S32x128.Idx, broadcastTo S32x128 (extractStridedSlice S32x1 ![0, 0] x slices_S32x128_o0_0_S32x1) broadcasts_S32x1_S32x128 j = x i
      ∧ (i 0).val = (j 0).val ∧ (i 1).val = 0 :=
  ⟨_, rfl, Nat.zero_add _, rfl⟩

omit [FloatOps F] in
/-- The lane's number. -/
theorem vLane_apply (j : S32x128.Idx) : vLane j = BitVec.ofNat 32 (j 1).val := by
  have key : ∀ i : S32x128.Idx, (i 0).val = (j 0).val → (i 1).val = 0 → vBase j - vBase i = BitVec.ofNat 32 (j 1).val := by
    intro i h0 h1
    unfold vBase
    rw [h0, h1]
    rw [show (j 0).val * 1000000 + (j 1).val + 42 = (j 1).val + ((j 0).val * 1000000 + 0 + 42) by ring, BitVec.ofNat_add, BitVec.add_sub_cancel]
  obtain ⟨i, hi, h0, h1⟩ := firstCol_apply vBase j
  unfold vLane
  show vBase j - _ = _
  rw [hi]
  exact key i h0 h1

omit [FloatOps F] in
/-- Which lanes of a tail chunk count. -/
theorem tail_mask : ∀ (k : Fin 8) (l : Fin 128), IntOp.cmpi .slt (BitVec.ofNat 32 l.val) (BitVec.ofNat 32 (576 + 4294967296 - k.val * 128)) = 1#1 ↔ k.val * 128 + l.val < 576 := by
  intro k l
  have hk := k.isLt
  have hl := l.isLt
  generalize k.val = k at *
  generalize l.val = l at *
  show BitVec.ofBool (BitVec.slt _ _) = 1#1 ↔ _
  rw [show ∀ b : Bool, BitVec.ofBool b = 1#1 ↔ b = true by decide, BitVec.slt_iff_toInt_lt, BitVec.toInt_eq_toNat_cond, BitVec.toInt_eq_toNat_cond,
    BitVec.toNat_ofNat, BitVec.toNat_ofNat]
  split <;> split <;> omega

/-- What a tail chunk's scores are does not depend on the columns beyond the argument's. -/
theorem tailS_congr {Y : S32x1024.Idx → F .f32} (hY : IsTail X Y) {k : Nat} (hk : k < 8) :
    tailS k (fun x => Y ((Rect.unit (s := S32x1024) ![0, k * 128] S32x128.size (inb_tailChunk k hk)).emb x)) = tailS k (chX X (7808 + k)) := by
  funext j
  have hm := tail_mask ⟨k, hk⟩ ⟨(j 1).val, (j 1).isLt⟩
  rw [← vLane_apply] at hm
  show (if IntOp.cmpi .slt (vLane j) (BitVec.ofNat 32 (576 + 4294967296 - k * 128)) = 1#1 then _ else _) = (if IntOp.cmpi .slt (vLane j) (BitVec.ofNat 32 (576 + 4294967296 - k * 128)) = 1#1 then _ else _)
  split
  · next h =>
    refine vscore_congr _ ?_
    have h' := hm.mp h
    rw [hY _ (by rw [(tail_emb hk j).2]; exact h'), (tail_emb hk j).1, (tail_emb hk j).2]
    unfold chX
    exact congrArg (xAt X _) (by ring)
  · rfl

/-- The tail's chunks. -/
theorem wp_runTail {M : Memref sig .tc .vmem S32x1024 .f32} {Y : S32x1024.Idx → F .f32} (hY : IsTail X Y) {α : Type}
    (cont : FVec F S32x128 .f32 → IVec S32x128 32 → TC F α) {Q : α → sProp 𝕄} :
    ∀ (n k : Nat) (h : k + n ≤ 8) (s : LState F),
      own d M Y ⊢ iprop((own d M Y -∗ wpT d (cont (accN (fun k s => stepGt (tailS k (chX X (7808 + k)), chC (7808 + k)) s) n k s).1
          (accN (fun k s => stepGt (tailS k (chX X (7808 + k)), chC (7808 + k)) s) n k s).2) Q)
        -∗ wpT d (runTail M vBase vLane cont n k h s.1 s.2) Q)
  | 0, k, h, s => by
    unfold runTail accN
    iintro H Hk
    iapply Hk $$ H
  | n + 1, k, h, s => by
    unfold runTail accN
    rw [show 999424 + k * 128 = (7808 + k) * 128 by ring, chC_eq, ← tailS_congr X hY (show k < 8 by omega)]
    iintro H Hk
    iapply (wp_ldTail d (fun _ => rfl)) $$ H
    iintro H
    iapply (wp_runTail hY cont n (k + 1) _ (stepGt (tailS k (fun x => Y ((Rect.unit (s := S32x1024) ![0, k * 128] S32x128.size (inb_tailChunk k (by omega))).emb x)), chC (7808 + k)) s)) $$ H
    iexact Hk

end Steps

end Cert.Proof

end
-- ==== Proof.Body1.lean ====
/- The first TensorCore kernel's body at a point. -/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body1

variable (d : Dev nD) (X : S32x1000000.Idx → F .f32)

omit [FloatOps F] in
/-- The condition of the first point. -/
theorem cond_first : ∀ p : Fin 88, condOf .eq (BitVec.ofNat 32 p.val) 0#32 = 1#1 ↔ p.val = 0 := by decide +kernel
omit [FloatOps F] in
/-- The condition of the later points. -/
theorem cond_later : ∀ p : Fin 88, condOf .sgt (BitVec.ofNat 32 p.val) 0#32 = 1#1 ↔ p.val ≠ 0 := by decide +kernel
omit [FloatOps F] in
/-- The condition of the last point. -/
theorem cond_last1 (i : grid1.Coords) : k1_cond3 i = 1#1 ↔ (i 0).val = 87 :=
  (show ∀ p : Fin 88, condOf .eq (BitVec.ofNat 32 p.val) 87#32 = 1#1 ↔ p.val = 87 by decide +kernel) (i 0)

/-- A program that is done. -/
theorem wp_pureT {α : Type} {x : α} {Q : α → sProp 𝕄} : Q x ⊢ wpT d (pure x : TC F α) Q := by
  unfold wpT
  simp only [Prog.pure_eq_ret, wp_ret]
  iintro H
  imodintro
  iexact H

/-- A program followed by another. -/
theorem wp_bindT {α β : Type} {p : TC F α} {k : α → TC F β} {Q : β → sProp 𝕄} :
    (wpT d p fun a => wpT d (k a) Q) ⊢ wpT d (p >>= k) Q :=
  Entails.of_eq (wp_bind frame _ Set.univ p k Q).symm

/-- A strict step of lanes handed on. -/
theorem vstep_pair {α : Type*} (s t : LState F) (k : FVec F S32x128 .f32 → IVec S32x128 32 → α) :
    vstep s.1 s.2 t.1 t.2 k = k (stepGt s t).1 (stepGt s t).2 := rfl

variable (a1 : Memref sig .tc .vmem S32x128 .i32) (a2 : Memref sig .tc .vmem S32x8192 .f32) (a3 : Memref sig .tc .vmem S32x1024 .f32)
  (a4 : Memref sig .tc .vmem S32x128 .f32) (a5 : Memref sig .tc .vmem S32x128 .i32) (a6 : Memref sig .tc .vmem S32x128 .f32)
  (a7 : Memref sig .tc .vmem S32x128 .i32)

/-- The first kernel's body: the scratch state advances a point; the last point writes the result. -/
theorem wp_tc1 (i : grid1.Coords) {Y2 : S32x8192.Idx → F .f32} (h2 : IsCols X (64 * (i 0).val) Y2) {Y3 : S32x1024.Idx → F .f32} (h3 : IsTail X Y3)
    (Y4 : FVec F S32x128 .f32) (Y5 : IVec S32x128 32) (s : LState F) (hs : ∀ p, (i 0).val = p + 1 → s = state1 X p) :
    iprop(own d a1 vBase ∗ own d a2 Y2 ∗ own d a3 Y3 ∗ own d a4 Y4 ∗ own d a5 Y5 ∗ own d a6 s.1 ∗ own d a7 s.2)
      ⊢ wpT d (tc1 i a1 a2 a3 a4 a5 a6 a7) fun _ =>
          iprop(own d a1 vBase ∗ own d a2 Y2 ∗ own d a3 Y3 ∗ own d a4 (if (i 0).val = 87 then (result1 X).1 else Y4)
            ∗ own d a5 (if (i 0).val = 87 then (result1 X).2 else Y5) ∗ own d a6 (state1 X (i 0).val).1 ∗ own d a7 (state1 X (i 0).val).2) := by
  have c1 := cond_first (i 0)
  have c2 := cond_later (i 0)
  have c3 := cond_last1 i
  unfold tc1
  iintro ⟨H1, H2, H3, H4, H5, H6, H7⟩
  iapply (wp_ld d) $$ H1
  iintro H1
  iapply (wp_half d X h2) $$ H2
  iintro H2
  iapply (wp_half d X h2) $$ H2
  iintro H2
  rw [show half32 X (64 * (i 0).val + 0) = half32 X (64 * (i 0).val) from rfl, vstep_pair,
    show stepGt (half32 X (64 * (i 0).val + 32)) (half32 X (64 * (i 0).val)) = point1 X (i 0).val from rfl]
  dsimp only
  by_cases e : (i 0).val = 0
  · have e87 : ¬ (i 0).val = 87 := by omega
    rw [if_pos (c1.mpr e), if_neg (fun h => c2.mp h e), if_neg (fun h => e87 (c3.mp h)), if_neg e87, if_neg e87,
      show state1 X (i 0).val = point1 X (i 0).val by rw [e]; rfl]
    simp only [shapeCast_self]
    iapply (wp_ld d) $$ H6
    iintro H6
    iapply (wp_stF d) $$ H6
    iintro H6
    iapply (wp_ld d) $$ H7
    iintro H7
    iapply (wp_stI d) $$ H7
    iintro H7
    iapply (wp_pureT d)
    iframe
  · obtain ⟨p, hp⟩ : ∃ p, (i 0).val = p + 1 := ⟨(i 0).val - 1, by omega⟩
    have es : stepGt (point1 X (i 0).val) s = state1 X (i 0).val := by rw [hs p hp, hp]; rfl
    have es1 : select (cmpf .ogt (point1 X (i 0).val).1 s.1) (point1 X (i 0).val).1 s.1 = (state1 X (i 0).val).1 := congrArg Prod.fst es
    have es2 : select (cmpf .ogt (point1 X (i 0).val).1 s.1) (point1 X (i 0).val).2 s.2 = (state1 X (i 0).val).2 := congrArg Prod.snd es
    rw [if_neg (fun h => e (c1.mp h)), if_pos (c2.mpr e)]
    simp only [shapeCast_self]
    iapply (wp_ld d) $$ H6
    iintro H6
    iapply (wp_ld d) $$ H6
    iintro H6
    iapply (wp_stF d) $$ H6
    iintro H6
    iapply (wp_ld d) $$ H7
    iintro H7
    iapply (wp_ld d) $$ H7
    iintro H7
    iapply (wp_stI d) $$ H7
    iintro H7
    rw [es1, es2]
    by_cases e87 : (i 0).val = 87
    · rw [if_pos (c3.mpr e87), if_pos e87, if_pos e87]
      iapply (wp_ld d) $$ H6
      iintro H6
      iapply (wp_ld d) $$ H7
      iintro H7
      iapply (wp_bindT d)
      iapply (wp_runTail d X h3 _ 8 0 (show 0 + 8 ≤ 8 by omega) (state1 X (i 0).val)) $$ H3
      iintro H3
      rw [e87, show accN (fun k s => stepGt (tailS k (chX X (7808 + k)), chC (7808 + k)) s) 8 0 (state1 X 87) = result1 X from rfl]
      iapply (wp_ld d) $$ H4
      iintro H4
      iapply (wp_stF d) $$ H4
      iintro H4
      iapply (wp_ld d) $$ H5
      iintro H5
      iapply (wp_stI d) $$ H5
      iintro H5
      iapply (wp_pureT d)
      iapply (wp_pureT d)
      iframe
    · rw [if_neg (fun h => e87 (c3.mp h)), if_neg e87, if_neg e87]
      iapply (wp_pureT d)
      iframe

end Body1

section Body2

variable (d : Dev nD) (X : S32x1000000.Idx → F .f32)

omit [FloatOps F] in
/-- The condition of the second kernel's first point. -/
theorem cond_first2 : ∀ p : Fin 34, condOf .eq (BitVec.ofNat 32 p.val) 0#32 = 1#1 ↔ p.val = 0 := by decide +kernel
omit [FloatOps F] in
/-- The condition of the second kernel's last point. -/
theorem cond_last2 (i : grid2.Coords) : k2_cond2 i = 1#1 ↔ (i 0).val = 33 :=
  (show ∀ p : Fin 34, condOf .eq (BitVec.ofNat 32 p.val) 33#32 = 1#1 ↔ p.val = 33 by decide +kernel) (i 0)

/-- The second kernel's block of words at point `p`. -/
def IsWords (p : Nat) (B : S32x8192.Idx → BitVec 32) : Prop := ∀ j, B j = gWord (j 0).val (8192 * p + (j 1).val)

omit [FloatOps F] in
/-- A chunk of such a block. -/
theorem IsWords.chunk {p : Nat} {B : S32x8192.Idx → BitVec 32} (h : IsWords p B) {k : Nat} (hk : k < 64) (x : S32x128.Idx) :
    B ((Rect.unit (s := S32x8192) ![0, k * 128] S32x128.size (inb_chunk k hk)).emb x) = vbits (chC (64 * (88 + p) + k)) x := by
  rw [h, (chunk_emb hk x).1, (chunk_emb hk x).2, ← gWord_chunk]

/-- A score from a chunk's words. -/
theorem vscoreOf_vbits (c : IVec S32x128 32) (x : FVec F S32x128 .f32) : vscoreOf (vbits c) x = vscore c x := rfl

/-- A lexicographic step of lanes handed on. -/
theorem vstepLex_pair {α : Type*} (s t : LState F) (k : FVec F S32x128 .f32 → IVec S32x128 32 → α) :
    vstepLex s.1 s.2 t.1 t.2 k = k (stepLex s t).1 (stepLex s t).2 := rfl

/-- The chunks of a point of the second kernel. -/
theorem wp_runLex {M : Memref sig .tc .vmem S32x8192 .f32} {N : Memref sig .tc .vmem S32x8192 .i32} {p : Nat} {Y : S32x8192.Idx → F .f32}
    (hY : IsCols X (64 * (88 + p)) Y) {B : S32x8192.Idx → BitVec 32} (hB : IsWords p B) {α : Type}
    (cont : FVec F S32x128 .f32 → IVec S32x128 32 → TC F α) {Q : α → sProp 𝕄} :
    ∀ (n k : Nat) (h : k + n ≤ 64) (s : LState F),
      iprop(own d M Y ∗ own d N B) ⊢ iprop(((own d M Y ∗ own d N B) -∗ wpT d (cont (accN (fun k s => stepLex (chunk X k) s) n (64 * (88 + p) + k) s).1
          (accN (fun k s => stepLex (chunk X k) s) n (64 * (88 + p) + k) s).2) Q)
        -∗ wpT d (runLex M N vBase (Scalar.addi 720896#32 (Scalar.muli (BitVec.ofNat 32 p) 8192#32)) cont n k h s.1 s.2) Q)
  | 0, k, h, s => by
    unfold runLex accN
    iintro H Hk
    iapply Hk $$ H
  | n + 1, k, h, s => by
    unfold runLex accN
    rw [ctr2_eq]
    iintro ⟨HM, HN⟩ Hk
    iapply (wp_ldChunk d (e := .i32) (k := k) (Y := vbits (chC (64 * (88 + p) + k))) (hB.chunk (show k < 64 by omega))) $$ HN
    iintro HN
    iapply (wp_ldChunk d (e := .f32) (k := k) (Y := chX X (64 * (88 + p) + k)) (hY.chunk X (show k < 64 by omega))) $$ HM
    iintro HM
    rw [shapeCast_self, vscoreOf_vbits]
    iapply (wp_runLex hY hB cont n (k + 1) _ (stepLex (chunk X (64 * (88 + p) + k)) s)) $$ [HM HN]
    · iframe
    iexact Hk

/-- A load and a store of a whole column. -/
theorem wp_stCol {M : Memref sig .tc .vmem S32x1 .i32} {w X : IVec S32x1 32} {Q : PUnit → sProp 𝕄} :
    own d M X ⊢ iprop((own d M w -∗ Q ⟨⟩) -∗ wpT d (do
      let _ ← (Prog.lift (.load M (Rect.unit (s := S32x1) ![0, 0] S32x1.size inb_S32x1_S32x1_0_0).toLoadRect (View.loadsAt_vmem h_S32x1)) :
        TC F (Vec F S32x1 .i32))
      Prog.lift (.store M (Rect.unit (s := S32x1) ![0, 0] S32x1.size inb_S32x1_S32x1_0_0) w Finset.univ (View.stores_vmem_bits_univ h_S32x1 rfl) (.inl rfl))
      pure PUnit.unit) Q) := by
  simp only [Prog.bind_lift]
  iintro H Hk
  iapply (wp_load_owns 𝒱₀ (tcT d) none) $$ H
  iintro H
  iapply (wp_store_owns 𝒱₀ (tcT d) none) $$ H
  iintro %X' %hX' H
  obtain rfl : X' = w := funext fun x => by
    rw [← hX'.1 x]; exact congrArg X' (emb_zero (s := S32x1) _ (by intro a; fin_cases a <;> rfl) _ x).symm
  iapply (wp_pureT d)
  iapply Hk $$ H

variable (a1 : Memref sig .tc .vmem S32x128 .i32) (a2 : Memref sig .tc .vmem S32x128 .f32) (a3 : Memref sig .tc .vmem S32x128 .i32)
    (a4 : Memref sig .tc .vmem S32x8192 .f32) (a5 : Memref sig .tc .vmem S32x8192 .i32) (a6 : Memref sig .tc .vmem S32x1 .i32)
    (a7 : Memref sig .tc .vmem S32x128 .f32) (a8 : Memref sig .tc .vmem S32x128 .i32)

/-- What the second kernel's head leaves. -/
def headVal (p : Nat) : Σ' (p : BitVec 32) (v0 : Vec F S32x128 .i32) (w : Vec F S32x128 .i32) (v1 : BitVec 32) (c : IVec S32x128 32) (u : IVec S32x128 1), FVec F S32x128 .f32 :=
  have u := ori (cmpf .ogt (vscore (chC (64 * (88 + p))) (chX X (64 * (88 + p)))) (state2 X p).1)
    (andi (cmpf .oeq (vscore (chC (64 * (88 + p))) (chX X (64 * (88 + p)))) (state2 X p).1) (cmpi .slt (chC (64 * (88 + p))) (state2 X p).2))
  ⟨BitVec.ofNat 32 p, vBase, (state2 X p).2, Scalar.addi 720896#32 (Scalar.muli (BitVec.ofNat 32 p) 8192#32), chC (64 * (88 + p)), u,
    select u (vscore (chC (64 * (88 + p))) (chX X (64 * (88 + p)))) (state2 X p).1⟩

/-- The second kernel up to its first chunk. -/
theorem wp_tc2Head (i : grid2.Coords) {Y4 : S32x8192.Idx → F .f32} (h4 : IsCols X (64 * (88 + (i 0).val)) Y4) {Y5 : S32x8192.Idx → BitVec 32} (h5 : IsWords (i 0).val Y5)
    (s : LState F) (hs : ∀ p, (i 0).val = p + 1 → s = state2 X (p + 1)) {Q : _ → sProp 𝕄} :
    iprop(own d a1 vBase ∗ own d a2 (result1 X).1 ∗ own d a3 (result1 X).2 ∗ own d a4 Y4 ∗ own d a5 Y5 ∗ own d a7 s.1 ∗ own d a8 s.2)
      ⊢ iprop(((own d a1 vBase ∗ own d a2 (result1 X).1 ∗ own d a3 (result1 X).2 ∗ own d a4 Y4 ∗ own d a5 Y5 ∗ own d a7 (state2 X (i 0).val).1 ∗ own d a8 (state2 X (i 0).val).2)
        -∗ Q (headVal X (i 0).val)) -∗ wpT d (tc2Head i a1 a2 a3 a4 a5 a7 a8) Q) := by
  have c1 := cond_first2 (i 0)
  unfold tc2Head
  iintro ⟨H1, H2, H3, H4, H5, H7, H8⟩ Hk
  iapply (wp_ld d) $$ H1
  iintro H1
  dsimp only
  by_cases e : (i 0).val = 0
  · rw [if_pos (c1.mpr e)]
    simp only [shapeCast_self]
    iapply (wp_ld d) $$ H2
    iintro H2
    iapply (wp_ld d) $$ H7
    iintro H7
    iapply (wp_stF d) $$ H7
    iintro H7
    iapply (wp_ld d) $$ H3
    iintro H3
    iapply (wp_ld d) $$ H8
    iintro H8
    iapply (wp_stI d) $$ H8
    iintro H8
    rw [show result1 X = state2 X (i 0).val by rw [e]; rfl]
    iapply (wp_ld d) $$ H7
    iintro H7
    iapply (wp_ld d) $$ H8
    iintro H8
    iapply (wp_ldChunk d (e := .i32) (k := 0) (Y := vbits (chC (64 * (88 + (i 0).val)))) (h5.chunk (show 0 < 64 by omega))) $$ H5
    iintro H5
    iapply (wp_ldChunk d (e := .f32) (k := 0) (Y := chX X (64 * (88 + (i 0).val))) (h4.chunk X (show 0 < 64 by omega))) $$ H4
    iintro H4
    iapply (wp_pureT d)
    rw [vscoreOf_vbits, ctr2_eq, Nat.add_zero]
    unfold headVal
    iapply Hk
    iframe
  · obtain ⟨p, hp⟩ : ∃ p, (i 0).val = p + 1 := ⟨(i 0).val - 1, by omega⟩
    rw [if_neg (fun h => e (c1.mp h)), show s = state2 X (i 0).val by rw [hs p hp, hp]]
    simp only [shapeCast_self]
    iapply (wp_ld d) $$ H7
    iintro H7
    iapply (wp_ld d) $$ H8
    iintro H8
    iapply (wp_ldChunk d (e := .i32) (k := 0) (Y := vbits (chC (64 * (88 + (i 0).val)))) (h5.chunk (show 0 < 64 by omega))) $$ H5
    iintro H5
    iapply (wp_ldChunk d (e := .f32) (k := 0) (Y := chX X (64 * (88 + (i 0).val))) (h4.chunk X (show 0 < 64 by omega))) $$ H4
    iintro H4
    iapply (wp_pureT d)
    rw [vscoreOf_vbits, ctr2_eq, Nat.add_zero]
    unfold headVal
    iapply Hk
    iframe

/-- The second kernel's body: the scratch state advances a point; the last point writes the sampled columns. -/
theorem wp_tc2 (i : grid2.Coords) {Y4 : S32x8192.Idx → F .f32} (h4 : IsCols X (64 * (88 + (i 0).val)) Y4) {Y5 : S32x8192.Idx → BitVec 32} (h5 : IsWords (i 0).val Y5)
    (Y6 : IVec S32x1 32) (s : LState F) (hs : ∀ p, (i 0).val = p + 1 → s = state2 X (p + 1)) :
    iprop(own d a1 vBase ∗ own d a2 (result1 X).1 ∗ own d a3 (result1 X).2 ∗ own d a4 Y4 ∗ own d a5 Y5 ∗ own d a6 Y6 ∗ own d a7 s.1 ∗ own d a8 s.2)
      ⊢ wpT d (tc2 i a1 a2 a3 a4 a5 a6 a7 a8) fun _ =>
          iprop(own d a1 vBase ∗ own d a2 (result1 X).1 ∗ own d a3 (result1 X).2 ∗ own d a4 Y4 ∗ own d a5 Y5
            ∗ own d a6 (if (i 0).val = 33 then result2 X else Y6) ∗ own d a7 (state2 X ((i 0).val + 1)).1 ∗ own d a8 (state2 X ((i 0).val + 1)).2) := by
  have c2 := cond_last2 i
  have er : accN (fun k s => stepLex (chunk X k) s) 63 (64 * (88 + (i 0).val) + 1) (stepLex (chunk X (64 * (88 + (i 0).val))) (state2 X (i 0).val))
    = state2 X ((i 0).val + 1) := rfl
  unfold tc2 tc2Loop
  iintro ⟨H1, H2, H3, H4, H5, H6, H7, H8⟩
  iapply (wp_bindT d)
  iapply (wp_bindT d)
  iapply (wp_tc2Head d X a1 a2 a3 a4 a5 a7 a8 i h4 h5 s hs) $$ [H1 H2 H3 H4 H5 H7 H8]
  · iframe
  iintro ⟨H1, H2, H3, H4, H5, H7, H8⟩
  unfold headVal
  dsimp only
  iapply (wp_runLex d X h4 h5 _ 63 1 (show 1 + 63 ≤ 64 by omega) (stepLex (chunk X (64 * (88 + (i 0).val))) (state2 X (i 0).val))) $$ [H4 H5]
  · iframe
  iintro ⟨H4, H5⟩
  rw [er]
  simp only [shapeCast_self]
  iapply (wp_ld d) $$ H7
  iintro H7
  iapply (wp_stF d) $$ H7
  iintro H7
  iapply (wp_ld d) $$ H8
  iintro H8
  iapply (wp_stI d) $$ H8
  iintro H8
  iapply (wp_pureT d)
  dsimp only
  by_cases e : (i 0).val = 33
  · rw [if_pos (c2.mpr e), if_pos e]
    iapply (wp_stCol d) $$ H6
    iintro H6
    rw [show vfinal vBase (state2 X ((i 0).val + 1)).1 (state2 X ((i 0).val + 1)).2 = result2 X by rw [e]; rfl]
    iframe
  · rw [if_neg (fun h => e (c2.mp h)), if_neg e]
    iapply (wp_pureT d)
    iframe

end Body2

end Cert.Proof

end
-- ==== Proof.Dats.lean ====
/- The TensorCore regions: what each window's buffer holds at each point, and the bodies' obligations. -/
module

public import proofs.«01_k».proof.Proof.Body1

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The waits a TensorCore may have recorded after the launch: those no higher than the launch's. -/
abbrev recW (c : Dev nD) : Set (SemLoc sig × HIx 1) := {p | (K (F := F)).lev (tcT c, p.1) p.2 ≤ 8}

/-- A whole buffer at some contents. -/
abbrev someBuf (c : Dev nD) (b : Ref sig .tc) : sProp 𝕄 := iprop(∃ f : Buf (Elt F) (c.tc.loc b), (c.tc.loc b) ↦{fullShare} f)

omit [FloatOps F] in
/-- At a live point an output's buffer is left at its result. -/
theorem leaves_live {b f : Bool} (h : b = false) {P Q R : sProp 𝕄} :
    R ⊢ (match (generalizing := false) b with | true => (match (generalizing := false) f with | false => P | true => Q) | false => R) := by
  subst h
  exact Entails.refl _

omit [FloatOps F] in
/-- At an idle point, not written back, it is left as found. -/
theorem leaves_idle {b f : Bool} (h : b = true) (h' : f = false) {P Q R : sProp 𝕄} :
    P ⊢ (match (generalizing := false) b with | true => (match (generalizing := false) f with | false => P | true => Q) | false => R) := by
  subst h h'
  exact Entails.refl _

section Region1

variable (X : S32x1000000.Idx → F .f32) (A3 : S32x128.Idx → F .f32) (A4 : S32x128.Idx → BitVec 32) (c : Dev nD)

/-- The rest of the core's scoped buffers. -/
abbrev rest1 : sProp 𝕄 := iprop(someBuf c cc2_stg0_0 ∗ someBuf c cc2_stg1_0 ∗ someBuf c cc2_stg2_0 ∗ someBuf c cc2_stg3_0 ∗ someBuf c cc2_stg3_1
  ∗ someBuf c cc2_stg4_0 ∗ someBuf c cc2_stg4_1 ∗ someBuf c cc2_stg5_0 ∗ someBuf c cc2_scratch0 ∗ someBuf c cc2_scratch1)

/-- The first region's invariant before point `n`. -/
def inv1 (n : Nat) : sProp 𝕄 :=
  iprop((∃ s : LState F, ⌜∀ p, n = p + 1 → s = state1 X p⌝ ∗ own (F := F) c (Memref.whole cc1_scratch0) s.1 ∗ own (F := F) c (Memref.whole cc1_scratch1) s.2) ∗ rest1 c)

/-- The first region's data. -/
def dat1 : Pipeline.Dat τ (Elt F) (HIx 1) ℕ UU ℕ cfg1 c where
  A := fun
    | 0 => vBase
    | 1 => X
    | 2 => X
    | 3 => A3
    | 4 => A4
    | ⟨_ + 5, h⟩ => absurd h (Nat.not_lt.2 (Nat.le_add_left _ _))
  after := fun
    | 0 => fun _ => vBase
    | 1 => fun t => win1_1.fill (grid1.coords t) (fun _ => xAt X 0 0) ((win1_1.blk t).view.read (Elt F) X)
    | 2 => fun t => win1_2.fill (grid1.coords t) (fun _ => xAt X 0 0) ((win1_2.blk t).view.read (Elt F) X)
    | 3 => fun _ => (result1 X).1
    | 4 => fun _ => (result1 X).2
    | ⟨_ + 5, h⟩ => absurd h (Nat.not_lt.2 (Nat.le_add_left _ _))
  Φ t := inv1 X c t.val
  q w := Pipeline.shareOf spec1 w
  owed _ := 0
  recorded _ := recW (F := F) c

omit [FloatOps F] in
/-- A grid point's coordinate is its number. -/
theorem coords1 (t : Fin grid1.N) : ((grid1.coords t) 0).val = t.val := by
  have h := t.isLt
  have h' : t.val < 88 := N_1 ▸ h
  rw [Pipeline.Grid.coords_val t 0 (S := 1) (B := 88) (by decide) rfl]
  omega

/-- The table's window holds the table. -/
theorem before1_0 (t : Fin cfg1.N) (d) : (dat1 X A3 A4 c).before 0 t d = vBase := by
  have hb : ∀ t, (dat1 X A3 A4 c).blockOf 0 t = (vBase : S32x128.Idx → BitVec 32) := by
    intro t
    funext j
    unfold Pipeline.Dat.blockOf
    rw [View.read_apply]
    show vBase ((win1_0.rect t).emb j) = vBase j
    congr 1
    funext a
    apply Fin.ext
    rw [win1_0.rect_emb_val_of_index_zero t a]
    fin_cases a <;> rfl
  rw [(dat1 X A3 A4 c).before_in_eq_fetched 0 rfl (fun _ => rfl) (fun _ _ _ => rfl) (fun t => (hb t).symm)]
  exact hb t

/-- The columns' window, just fetched. -/
theorem before1_1 (t : Fin cfg1.N) (d) : (dat1 X A3 A4 c).before 1 t d = (dat1 X A3 A4 c).fetched 1 t d :=
  (dat1 X A3 A4 c).before_fetched 1 t (fetch1_1 t) d

omit [FloatOps F] in
/-- The tail's window is cut the same way at each point. -/
theorem clip1_2 (t t' : Fin grid1.N) : win1_2.clip (grid1.coords t) = win1_2.clip (grid1.coords t') := by
  funext a
  show Pipeline.Clip.of (cc1_transform_2 (grid1.coords t) a) (S32x1024.size a) (S32x1000000.size a)
    = Pipeline.Clip.of (cc1_transform_2 (grid1.coords t') a) (S32x1024.size a) (S32x1000000.size a)
  rw [show cc1_transform_2 (grid1.coords t) = cc1_transform_2 (grid1.coords t') from rfl]

/-- What the columns' window is left at, on the part a transfer moves. -/
theorem after1_1 (t : Fin cfg1.N) : win1_1.cut (grid1.coords t) ((dat1 X A3 A4 c).after 1 t) = (dat1 X A3 A4 c).blockOf 1 t := by
  dsimp only [dat1]
  exact win1_1.cut_fill _ _ _

/-- What the tail's window is left at, on the part a transfer moves. -/
theorem after1_2 (t : Fin cfg1.N) : win1_2.cut (grid1.coords t) ((dat1 X A3 A4 c).after 2 t) = (dat1 X A3 A4 c).blockOf 2 t := by
  dsimp only [dat1]
  exact win1_2.cut_fill _ _ _

/-- The tail's window, fetched once. -/
theorem before1_2 (t : Fin cfg1.N) (d) : (dat1 X A3 A4 c).before 2 t d = (dat1 X A3 A4 c).fetched 2 t d :=
  (dat1 X A3 A4 c).before_in_eq_fetched 2 rfl (fun _ => rfl) (fun t t' _ => clip1_2 t t') (fun t => after1_2 X A3 A4 c t) t d

/-- It holds the point's columns. -/
theorem cols1 (t : Fin cfg1.N) (d) : IsCols X (64 * ((grid1.coords t) 0).val) ((dat1 X A3 A4 c).fetched 1 t d) := by
  intro j
  have ht : ((grid1.coords t) 0).val < 88 := ((grid1.coords t) 0).isLt
  have h0 : (j 0).val < 32 := (j 0).isLt
  have h1 : (j 1).val < 8192 := (j 1).isLt
  have hm : win1_1.moved (grid1.coords t) j = true := (win1_1.moved_iff _ j).mpr fun a => by
    show (j a).val < (Pipeline.Clip.of (cc1_transform_1 (grid1.coords t) a) (S32x8192.size a) (S32x1000000.size a)).extent (S32x8192.size a)
    have he : Pipeline.Clip.of (cc1_transform_1 (grid1.coords t) a) (S32x8192.size a) (S32x1000000.size a) = none := by
      unfold Pipeline.Clip.of
      rw [if_pos]
      fin_cases a
      · show (0 + 1) * 32 ≤ 32
        omega
      · show ((BitVec.ofNat 32 ((grid1.coords t) 0).val).toNat + 1) * 8192 ≤ 1000000
        rw [BitVec.toNat_ofNat]
        omega
    rw [he]
    exact (j a).isLt
  unfold Pipeline.Dat.fetched Pipeline.Window.fill
  rw [dif_pos hm]
  unfold Pipeline.Dat.blockOf
  rw [View.read_apply]
  show X ((win1_1.rect t).emb _) = _
  unfold xAt
  rw [dif_pos ⟨h0, by omega⟩]
  congr 1
  funext a
  apply Fin.ext
  rw [win1_1.rect_emb_val t _ a rfl]
  fin_cases a
  · show 0 * 32 + (j 0).val = (j 0).val
    omega
  · show (BitVec.ofNat 32 ((grid1.coords t) 0).val).toNat * 8192 + (j 1).val = 64 * ((grid1.coords t) 0).val * 128 + (j 1).val
    rw [BitVec.toNat_ofNat]
    omega

/-- It holds the tail. -/
theorem tail1 (t : Fin cfg1.N) (d) : IsTail X ((dat1 X A3 A4 c).fetched 2 t d) := by
  intro j hj
  have h0 : (j 0).val < 32 := (j 0).isLt
  have hm : win1_2.moved (grid1.coords t) j = true := (win1_2.moved_iff _ j).mpr fun a => by
    show (j a).val < (Pipeline.Clip.of (cc1_transform_2 (grid1.coords t) a) (S32x1024.size a) (S32x1000000.size a)).extent (S32x1024.size a)
    fin_cases a
    · exact h0
    · show (j 1).val < (Pipeline.Clip.of 976 1024 1000000).extent 1024
      rw [show Pipeline.Clip.of 976 1024 1000000 = some 576 by unfold Pipeline.Clip.of; rw [if_neg (by omega)]]
      exact hj
  unfold Pipeline.Dat.fetched Pipeline.Window.fill
  rw [dif_pos hm]
  unfold Pipeline.Dat.blockOf
  rw [View.read_apply]
  show X ((win1_2.rect t).emb _) = _
  unfold xAt
  rw [dif_pos ⟨h0, by omega⟩]
  refine congrArg X (funext fun a => Fin.ext ?_)
  rw [win1_2.rect_emb_val t _ a rfl]
  fin_cases a
  · show 0 * 32 + (j 0).val = (j 0).val
    omega
  · show 976 * 1024 + (j 1).val = 999424 + (j 1).val
    omega

/-- A loose input window's buffer, as the point leaves it. -/
theorem leave1_1 (t : Fin cfg1.N) (d) : (dat1 X A3 A4 c).fetched 1 t d
    = win1_1.fill (grid1.coords t) d (win1_1.cut (grid1.coords t) ((dat1 X A3 A4 c).after 1 t)) := by
  exact congrArg (win1_1.fill (grid1.coords t) d) (after1_1 X A3 A4 c t).symm

/-- A loose input window's buffer, as the point leaves it. -/
theorem leave1_2 (t : Fin cfg1.N) (d) : (dat1 X A3 A4 c).fetched 2 t d
    = win1_2.fill (grid1.coords t) d (win1_2.cut (grid1.coords t) ((dat1 X A3 A4 c).after 2 t)) := by
  exact congrArg (win1_2.fill (grid1.coords t) d) (after1_2 X A3 A4 c t).symm

/-- The result's buffers are idle before the last point, and not written back. -/
theorem idle1_out (t : Fin cfg1.N) (h : t.val ≠ 87) :
    (cfg1.idle 3 (grid1.coords t) = true ∧ (cfg1.win 3).flush t = false) ∧ (cfg1.idle 4 (grid1.coords t) = true ∧ (cfg1.win 4).flush t = false) := by
  have ht : t.val < 88 := N_1 ▸ t.isLt
  have hi : (!(k1_cond3 (grid1.coords t) == 1#1)) = true := by
    have := mt (cond_last1 (grid1.coords t)).mp (by rw [coords1]; exact h)
    simpa using this
  refine ⟨⟨hi, ?_⟩, ⟨hi, ?_⟩⟩
  · exact Bool.eq_false_iff.mpr fun e => h (by have := (flush1_3 t).mp e; omega)
  · exact Bool.eq_false_iff.mpr fun e => h (by have := (flush1_4 t).mp e; omega)

/-- At the last point they are not. -/
theorem live1_out (t : Fin cfg1.N) (h : t.val = 87) : cfg1.idle 3 (grid1.coords t) = false ∧ cfg1.idle 4 (grid1.coords t) = false := by
  have hi : (!(k1_cond3 (grid1.coords t) == 1#1)) = false := by
    have := (cond_last1 (grid1.coords t)).mpr (by rw [coords1]; exact h)
    simpa using this
  exact ⟨hi, hi⟩

/-- The first region's body at each point. -/
theorem hbody1 : Pipeline.BodyObligationLoose (dat1 X A3 A4 c) (defs₀ (F := F)) 𝒱₀ none Set.univ := by
  intro t
  rw [bigSep_W1, bigSep_W1]
  show iprop(inv1 X c t.val ∗ (dat1 X A3 A4 c).owesAt none t.castSucc ∗ _)
    ⊢ wp frame (wpE (defs₀ (F := F)) 𝒱₀ (tcT c) none) Set.univ (bodyAt1 t) fun _ => iprop(inv1 X c (t.val + 1) ∗ (dat1 X A3 A4 c).owesAt none t.castSucc ∗ _)
  unfold inv1 bodyAt1
  rw [tc1_eq]
  iintro ⟨⟨⟨%s, %hs, H6, H7⟩, Hr⟩, HO, ⟨%d0, H0⟩, ⟨%d1, H1⟩, ⟨%d2, H2⟩, ⟨%d3, H3⟩, ⟨%d4, H4⟩⟩
  rw [before1_0, before1_1, before1_2]
  iapply (wp_wand_r frame _ Set.univ)
  isplitl [H0 H1 H2 H3 H4 H6 H7]
  · iapply (wp_tc1 c X (st1_0 t) (st1_1 t) (st1_2 t) (st1_3 t) (st1_4 t) (Memref.whole cc1_scratch0) (Memref.whole cc1_scratch1) (grid1.coords t)
      (cols1 X A3 A4 c t d1) (tail1 X A3 A4 c t d2) ((dat1 X A3 A4 c).before 3 t d3) ((dat1 X A3 A4 c).before 4 t d4) s
      (fun p hp => hs p (by rw [coords1] at hp; exact hp)))
    isplitl [H0]; · iexact H0
    isplitl [H1]; · iexact H1
    isplitl [H2]; · iexact H2
    isplitl [H3]; · iexact H3
    isplitl [H4]; · iexact H4
    isplitl [H6]; · iexact H6
    iexact H7
  iintro %_ ⟨H0, H1, H2, H3, H4, H6, H7⟩
  isplitl [H6 H7 Hr]
  · isplitl [H6 H7]
    · iexists (state1 X (grid1.coords t 0).val)
      isplitr
      · ipureintro
        intro p hp
        rw [coords1]
        exact congrArg (state1 X) (by omega)
      isplitl [H6]; · iexact H6
      iexact H7
    iexact Hr
  isplitl [HO]; · iexact HO
  isplitl [H0]; · iexact H0
  isplitl [H1]
  · iexists d1
    rw [leave1_1]
    iexact H1
  isplitl [H2]
  · iexists d2
    rw [leave1_2]
    iexact H2
  rw [coords1]
  by_cases h : t.val = 87
  · obtain ⟨e3, e4⟩ := live1_out t h
    rw [if_pos h, if_pos h]
    isplitl [H3]
    · iapply (leaves_live e3)
      iexact H3
    iapply (leaves_live e4)
    iexact H4
  · obtain ⟨⟨e3, f3⟩, e4, f4⟩ := idle1_out t h
    rw [if_neg h, if_neg h]
    isplitl [H3]
    · iapply (leaves_idle e3 f3)
      iexists d3
      iexact H3
    iapply (leaves_idle e4 f4)
    iexists d4
    iexact H4

/-- The last point. -/
def last1 : Fin grid1.N := ⟨87, by rw [N_1]; omega⟩

omit [FloatOps F] in
/-- The last point writes the whole array back. -/
theorem cover1_3 (i : S32x128.Idx) : i ∈ (win1_3.blk last1).view.set := by
  refine Finset.mem_map.mpr ⟨i, Finset.mem_univ _, ?_⟩
  show (win1_3.rect last1).emb i = i
  refine funext fun a => Fin.ext ?_
  rw [win1_3.rect_emb_val_of_index_zero last1 a (by fin_cases a <;> rfl)]

/-- After the region the first result's array holds the first result. -/
theorem out1_3 : (dat1 X A3 A4 c).arrAt 3 cfg1.N = (result1 X).1 := by
  funext i
  refine (dat1 X A3 A4 c).arrAt_forall_of_cover 3 (fun i v => v = (result1 X).1 i) (fun t _ y => ?_) (fun i => ?_) i
  · show (result1 X).1 (win1_3.xinj (grid1.coords t) y) = (result1 X).1 ((win1_3.rect t).emb y)
    refine congrArg (result1 X).1 (funext fun a => Fin.ext ?_)
    rw [win1_3.rect_emb_val_of_index_zero t a (by fin_cases a <;> rfl)]
  · exact ⟨last1, (flush1_3 _).mpr rfl, cover1_3 i⟩

omit [FloatOps F] in
/-- The last point writes the whole array back. -/
theorem cover1_4 (i : S32x128.Idx) : i ∈ (win1_4.blk last1).view.set := by
  refine Finset.mem_map.mpr ⟨i, Finset.mem_univ _, ?_⟩
  show (win1_4.rect last1).emb i = i
  refine funext fun a => Fin.ext ?_
  rw [win1_4.rect_emb_val_of_index_zero last1 a (by fin_cases a <;> rfl)]

/-- And the second the second. -/
theorem out1_4 : (dat1 X A3 A4 c).arrAt 4 cfg1.N = (result1 X).2 := by
  funext i
  refine (dat1 X A3 A4 c).arrAt_forall_of_cover 4 (fun i v => v = (result1 X).2 i) (fun t _ y => ?_) (fun i => ?_) i
  · show (result1 X).2 (win1_4.xinj (grid1.coords t) y) = (result1 X).2 ((win1_4.rect t).emb y)
    refine congrArg (result1 X).2 (funext fun a => Fin.ext ?_)
    rw [win1_4.rect_emb_val_of_index_zero t a (by fin_cases a <;> rfl)]
  · exact ⟨last1, (flush1_4 _).mpr rfl, cover1_4 i⟩

end Region1

section Region2

variable (X : S32x1000000.Idx → F .f32) (A5 : S32x1.Idx → BitVec 32) (c : Dev nD)

/-- The rest of the core's scoped buffers. -/
abbrev rest2 : sProp 𝕄 := iprop(someBuf c cc1_stg0_0 ∗ someBuf c cc1_stg1_0 ∗ someBuf c cc1_stg1_1 ∗ someBuf c cc1_stg2_0 ∗ someBuf c cc1_stg3_0
  ∗ someBuf c cc1_stg4_0 ∗ someBuf c cc1_scratch0 ∗ someBuf c cc1_scratch1)

/-- The second region's invariant before point `n`. -/
def inv2 (n : Nat) : sProp 𝕄 :=
  iprop((∃ s : LState F, ⌜∀ p, n = p + 1 → s = state2 X (p + 1)⌝ ∗ own (F := F) c (Memref.whole cc2_scratch0) s.1 ∗ own (F := F) c (Memref.whole cc2_scratch1) s.2) ∗ rest2 c)

/-- The second region's data. -/
def dat2 : Pipeline.Dat τ (Elt F) (HIx 1) ℕ UU ℕ cfg2 c where
  A := fun
    | 0 => vBase
    | 1 => (result1 X).1
    | 2 => (result1 X).2
    | 3 => X
    | 4 => gBits
    | 5 => A5
    | ⟨_ + 6, h⟩ => absurd h (Nat.not_lt.2 (Nat.le_add_left _ _))
  after := fun
    | 0 => fun _ => vBase
    | 1 => fun _ => (result1 X).1
    | 2 => fun _ => (result1 X).2
    | 3 => fun t => win2_3.fill (grid2.coords t) (fun _ => xAt X 0 0) ((win2_3.blk t).view.read (Elt F) X)
    | 4 => fun t => win2_4.fill (grid2.coords t) (fun _ => 0#32) ((win2_4.blk t).view.read (Elt F) gBits)
    | 5 => fun _ => result2 X
    | ⟨_ + 6, h⟩ => absurd h (Nat.not_lt.2 (Nat.le_add_left _ _))
  Φ t := inv2 X c t.val
  q _ := fullShare
  owed _ := 0
  recorded _ := recW (F := F) c

omit [FloatOps F] in
/-- A grid point's coordinate is its number. -/
theorem coords2 (t : Fin grid2.N) : ((grid2.coords t) 0).val = t.val := by
  have h := t.isLt
  have h' : t.val < 34 := N_2 ▸ h
  rw [Pipeline.Grid.coords_val t 0 (S := 1) (B := 34) (by decide) rfl]
  omega

/-- The table's window holds the table. -/
theorem before2_0 (t : Fin cfg2.N) (d) : (dat2 X A5 c).before 0 t d = vBase := by
  have hb : ∀ t, (dat2 X A5 c).blockOf 0 t = (vBase : S32x128.Idx → BitVec 32) := by
    intro t
    funext j
    unfold Pipeline.Dat.blockOf
    rw [View.read_apply]
    show vBase ((win2_0.rect t).emb j) = vBase j
    refine congrArg vBase (funext fun a => Fin.ext ?_)
    rw [win2_0.rect_emb_val_of_index_zero t a (by fin_cases a <;> rfl)]
  rw [(dat2 X A5 c).before_in_eq_fetched 0 rfl (fun _ => rfl) (fun _ _ _ => rfl) (fun t => (hb t).symm)]
  exact hb t

/-- The best keys' window holds the first region's. -/
theorem before2_1 (t : Fin cfg2.N) (d) : (dat2 X A5 c).before 1 t d = (result1 X).1 := by
  have hb : ∀ t, (dat2 X A5 c).blockOf 1 t = (result1 X).1 := by
    intro t
    funext j
    unfold Pipeline.Dat.blockOf
    rw [View.read_apply]
    show (result1 X).1 ((win2_1.rect t).emb j) = (result1 X).1 j
    refine congrArg (result1 X).1 (funext fun a => Fin.ext ?_)
    rw [win2_1.rect_emb_val_of_index_zero t a (by fin_cases a <;> rfl)]
  rw [(dat2 X A5 c).before_in_eq_fetched 1 rfl (fun _ => rfl) (fun _ _ _ => rfl) (fun t => (hb t).symm)]
  exact hb t

/-- The best counters' window holds the first region's. -/
theorem before2_2 (t : Fin cfg2.N) (d) : (dat2 X A5 c).before 2 t d = (result1 X).2 := by
  have hb : ∀ t, (dat2 X A5 c).blockOf 2 t = (result1 X).2 := by
    intro t
    funext j
    unfold Pipeline.Dat.blockOf
    rw [View.read_apply]
    show (result1 X).2 ((win2_2.rect t).emb j) = (result1 X).2 j
    refine congrArg (result1 X).2 (funext fun a => Fin.ext ?_)
    rw [win2_2.rect_emb_val_of_index_zero t a (by fin_cases a <;> rfl)]
  rw [(dat2 X A5 c).before_in_eq_fetched 2 rfl (fun _ => rfl) (fun _ _ _ => rfl) (fun t => (hb t).symm)]
  exact hb t

/-- The columns' window, just fetched. -/
theorem before2_3 (t : Fin cfg2.N) (d) : (dat2 X A5 c).before 3 t d = (dat2 X A5 c).fetched 3 t d :=
  (dat2 X A5 c).before_fetched 3 t (fetch2_3 t) d

/-- It holds the point's columns. -/
theorem cols2 (t : Fin cfg2.N) (d) : IsCols X (64 * (88 + ((grid2.coords t) 0).val)) ((dat2 X A5 c).fetched 3 t d) := by
  intro j
  have ht : ((grid2.coords t) 0).val < 34 := ((grid2.coords t) 0).isLt
  have h0 : (j 0).val < 32 := (j 0).isLt
  have h1 : (j 1).val < 8192 := (j 1).isLt
  have hx : cc2_transform_3 (grid2.coords t) 1 = 88 + ((grid2.coords t) 0).val := by
    show (IntOp.addi 88#32 (BitVec.ofNat 32 ((grid2.coords t) 0).val)).toNat = _
    unfold IntOp.addi
    rw [BitVec.toNat_add, BitVec.toNat_ofNat, BitVec.toNat_ofNat]
    omega
  have hm : win2_3.moved (grid2.coords t) j = true := (win2_3.moved_iff _ j).mpr fun a => by
    show (j a).val < (Pipeline.Clip.of (cc2_transform_3 (grid2.coords t) a) (S32x8192.size a) (S32x1000000.size a)).extent (S32x8192.size a)
    have he : Pipeline.Clip.of (cc2_transform_3 (grid2.coords t) a) (S32x8192.size a) (S32x1000000.size a) = none := by
      unfold Pipeline.Clip.of
      rw [if_pos]
      fin_cases a
      · show (0 + 1) * 32 ≤ 32
        omega
      · show (cc2_transform_3 (grid2.coords t) 1 + 1) * 8192 ≤ 1000000
        rw [hx]
        omega
    rw [he]
    exact (j a).isLt
  unfold Pipeline.Dat.fetched Pipeline.Window.fill
  rw [dif_pos hm]
  unfold Pipeline.Dat.blockOf
  rw [View.read_apply]
  show X ((win2_3.rect t).emb _) = _
  unfold xAt
  rw [dif_pos ⟨h0, by omega⟩]
  refine congrArg X (funext fun a => Fin.ext ?_)
  rw [win2_3.rect_emb_val t _ a rfl]
  fin_cases a
  · show 0 * 32 + (j 0).val = (j 0).val
    omega
  · show cc2_transform_3 (grid2.coords t) 1 * 8192 + (j 1).val = 64 * (88 + ((grid2.coords t) 0).val) * 128 + (j 1).val
    rw [hx]
    omega

/-- What the words' window is left at. -/
theorem after2_4 (t : Fin cfg2.N) (d) : (dat2 X A5 c).before 4 t d = (dat2 X A5 c).after 4 t := by
  rw [(dat2 X A5 c).before_fetched 4 t (fetch2_4 t) d,
    (dat2 X A5 c).fetched_of_clip_none 4 t (fun _ => rfl) d (fun _ => 0#32)]
  rfl

/-- It holds the point's words. -/
theorem words2 (t : Fin cfg2.N) : IsWords ((grid2.coords t) 0).val ((dat2 X A5 c).after 4 t) := by
  intro j
  have ht : ((grid2.coords t) 0).val < 34 := ((grid2.coords t) 0).isLt
  have hm : win2_4.moved (grid2.coords t) j = true := (win2_4.moved_iff _ j).mpr fun a => (j a).isLt
  show win2_4.fill (grid2.coords t) (fun _ => 0#32) ((win2_4.blk t).view.read (Elt F) gBits) j = _
  unfold Pipeline.Window.fill
  rw [dif_pos hm, View.read_apply]
  show gBits ((win2_4.rect t).emb _) = _
  unfold gBits
  have e0 : (((win2_4.rect t).emb (fun a => ⟨(j a).val, (win2_4.moved_iff _ j).mp hm a⟩)) 0).val = (j 0).val := by
    rw [win2_4.rect_emb_val t _ 0 rfl]
    show 0 * 32 + (j 0).val = (j 0).val
    omega
  have e1 : (((win2_4.rect t).emb (fun a => ⟨(j a).val, (win2_4.moved_iff _ j).mp hm a⟩)) 1).val = 8192 * ((grid2.coords t) 0).val + (j 1).val := by
    rw [win2_4.rect_emb_val t _ 1 rfl]
    show (BitVec.ofNat 32 ((grid2.coords t) 0).val).toNat * 8192 + (j 1).val = _
    rw [BitVec.toNat_ofNat]
    omega
  exact congrArg₂ gWord e0 e1

/-- The columns' buffer, as the point leaves it. -/
theorem leave2_3 (t : Fin cfg2.N) (d) : (dat2 X A5 c).fetched 3 t d
    = win2_3.fill (grid2.coords t) d (win2_3.cut (grid2.coords t) ((dat2 X A5 c).after 3 t)) := by
  have h : win2_3.cut (grid2.coords t) ((dat2 X A5 c).after 3 t) = (dat2 X A5 c).blockOf 3 t := by
    dsimp only [dat2]
    exact win2_3.cut_fill _ _ _
  exact congrArg (win2_3.fill (grid2.coords t) d) h.symm

/-- The result's buffer is idle before the last point, and not written back. -/
theorem idle2_out (t : Fin cfg2.N) (h : t.val ≠ 33) : cfg2.idle 5 (grid2.coords t) = true ∧ (cfg2.win 5).flush t = false := by
  have ht : t.val < 34 := N_2 ▸ t.isLt
  have hi : (!(k2_cond2 (grid2.coords t) == 1#1)) = true := by
    have := mt (cond_last2 (grid2.coords t)).mp (by rw [coords2]; exact h)
    simpa using this
  exact ⟨hi, Bool.eq_false_iff.mpr fun e => h (by have := (flush2_5 t).mp e; omega)⟩

/-- At the last point it is not. -/
theorem live2_out (t : Fin cfg2.N) (h : t.val = 33) : cfg2.idle 5 (grid2.coords t) = false := by
  have hi : (!(k2_cond2 (grid2.coords t) == 1#1)) = false := by
    have := (cond_last2 (grid2.coords t)).mpr (by rw [coords2]; exact h)
    simpa using this
  exact hi

/-- The second region's body at each point. -/
theorem hbody2 : Pipeline.BodyObligationLoose (dat2 X A5 c) (defs₀ (F := F)) 𝒱₀ none Set.univ := by
  intro t
  rw [bigSep_W2, bigSep_W2]
  show iprop(inv2 X c t.val ∗ (dat2 X A5 c).owesAt none t.castSucc ∗ _)
    ⊢ wp frame (wpE (defs₀ (F := F)) 𝒱₀ (tcT c) none) Set.univ (bodyAt2 t) fun _ => iprop(inv2 X c (t.val + 1) ∗ (dat2 X A5 c).owesAt none t.castSucc ∗ _)
  unfold inv2 bodyAt2
  rw [tc2_eq]
  iintro ⟨⟨⟨%s, %hs, H6, H7⟩, Hr⟩, HO, ⟨%d0, H0⟩, ⟨%d1, H1⟩, ⟨%d2, H2⟩, ⟨%d3, H3⟩, ⟨%d4, H4⟩, ⟨%d5, H5⟩⟩
  rw [before2_0, before2_1, before2_2, before2_3, after2_4]
  iapply (wp_wand_r frame _ Set.univ)
  isplitl [H0 H1 H2 H3 H4 H5 H6 H7]
  · iapply (wp_tc2 c X (st2_0 t) (st2_1 t) (st2_2 t) (st2_3 t) (st2_4 t) (st2_5 t) (Memref.whole cc2_scratch0) (Memref.whole cc2_scratch1) (grid2.coords t)
      (cols2 X A5 c t d3) (words2 X A5 c t) ((dat2 X A5 c).before 5 t d5) s
      (fun p hp => hs p (by rw [coords2] at hp; exact hp)))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %_ ⟨H0, H1, H2, H3, H4, H5, H6, H7⟩
  isplitl [H6 H7 Hr]
  · isplitl [H6 H7]
    · iexists (state2 X ((grid2.coords t 0).val + 1))
      isplitr
      · ipureintro
        intro p hp
        rw [coords2]
        exact congrArg (state2 X) (by omega)
      isplitl [H6]; · iexact H6
      iexact H7
    iexact Hr
  isplitl [HO]; · iexact HO
  isplitl [H0]; · iexact H0
  isplitl [H1]; · iexact H1
  isplitl [H2]; · iexact H2
  isplitl [H3]
  · iexists d3
    rw [leave2_3]
    iexact H3
  isplitl [H4]; · iexact H4
  rw [coords2]
  by_cases h : t.val = 33
  · rw [if_pos h]
    iapply (leaves_live (live2_out t h))
    iexact H5
  · obtain ⟨e, f⟩ := idle2_out t h
    rw [if_neg h]
    iapply (leaves_idle e f)
    iexists d5
    iexact H5

/-- The last point. -/
def last2 : Fin grid2.N := ⟨33, by rw [N_2]; omega⟩

omit [FloatOps F] in
/-- The last point writes the whole array back. -/
theorem cover2_5 (i : S32x1.Idx) : i ∈ (win2_5.blk last2).view.set := by
  refine Finset.mem_map.mpr ⟨i, Finset.mem_univ _, ?_⟩
  show (win2_5.rect last2).emb i = i
  refine funext fun a => Fin.ext ?_
  rw [win2_5.rect_emb_val_of_index_zero last2 a (by fin_cases a <;> rfl)]

/-- After the region the result's array holds the result. -/
theorem out2_5 : (dat2 X A5 c).arrAt 5 cfg2.N = result2 X := by
  funext i
  refine (dat2 X A5 c).arrAt_forall_of_cover 5 (fun i v => v = result2 X i) (fun t _ y => ?_) (fun i => ?_) i
  · show result2 X (win2_5.xinj (grid2.coords t) y) = result2 X ((win2_5.rect t).emb y)
    refine congrArg (result2 X) (funext fun a => Fin.ext ?_)
    rw [win2_5.rect_emb_val_of_index_zero t a (by fin_cases a <;> rfl)]
  · exact ⟨last2, (flush2_5 _).mpr rfl, cover2_5 i⟩

end Region2

end Cert.Proof
-- ==== Proof.Tile.lean ====
/- A tile's task: row `2 i + c` of the output is filled block by block, through two scratch buffers whose transfers out
   are waited for one trip later. -/
module

public import proofs.«01_k».proof.Proof.Fill

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-- The output as a tile addresses it. -/
abbrev oV : Memref sig .scVector .hbm S32x278528 .i32 := Memref.whole main_v0_scv
/-- The first scratch buffer. -/
abbrev aV : Memref sig .scVector .vmem S4096 .i32 := Memref.whole cc0_scratch0
/-- The second scratch buffer. -/
abbrev bV : Memref sig .scVector .vmem S4096 .i32 := Memref.whole cc0_scratch1
/-- The row a tile fills. -/
abbrev rowOf (L : grid0.Coords) : Nat := 2 * (L 1).val + (L 0).val

/-! ## A block of the output -/

omit [FloatOps F] in
/-- Where an entry of a block of 4096 words of the output lies. -/
theorem rowAt_emb {off : Fin 2 → Nat} (h : ∀ a, off a + S1x4096.size a ≤ S32x278528.size a) (x : S4096.Idx) :
    (((rowAt oV off h).view.emb x : S32x278528.Idx) 0).val = off 0 ∧ (((rowAt oV off h).view.emb x : S32x278528.Idx) 1).val = off 1 + (x 0).val := by
  have e : Shape.reshapeEquiv (s := S1x4096) (s' := S4096) squeezes_S1x4096_S4096.numel_eq x = Fin.cons ⟨0, Nat.one_pos⟩ x :=
    Shape.reshapeEquiv_cons_one _ x
  constructor
  · show off 0 + 1 * ((Shape.reshapeEquiv (s := S1x4096) (s' := S4096) squeezes_S1x4096_S4096.numel_eq x) 0).val = _
    rw [e]; show _ + 1 * 0 = _; omega
  · show off 1 + 1 * ((Shape.reshapeEquiv (s := S1x4096) (s' := S4096) squeezes_S1x4096_S4096.numel_eq x) 1).val = _
    rw [e]; show _ + 1 * (x 0).val = _; omega

omit [FloatOps F] in
/-- The columns of a block. -/
theorem rowAt_set {off : Fin 2 → Nat} (h : ∀ a, off a + S1x4096.size a ≤ S32x278528.size a) {w n : Nat} (ho : off = ![w, n]) :
    ((rowAt oV off h).view.set : Finset S32x278528.Idx) = colSet w n (n + 4096) := by
  subst ho
  show (((View.whole main_v0_scv).slice (Rect.unit (s := S32x278528) ![w, n] S1x4096.size h)).reshape S4096 squeezes_S1x4096_S4096.numel_eq).set = _
  rw [View.set_reshape]
  rw [View.set_slice_whole]
  ext j
  rw [mem_colSet]
  refine Iff.trans Rect.mem_set_unit ?_
  refine Iff.trans (Fin.forall_fin_two (p := fun a : Fin 2 => (![w, n] : Fin 2 → Nat) a ≤ (j a).val ∧ (j a).val < (![w, n] : Fin 2 → Nat) a + S1x4096.size a)) ?_
  show ((w ≤ (j 0).val ∧ (j 0).val < w + 1) ∧ (n ≤ (j 1).val ∧ (j 1).val < n + 4096)) ↔ _
  omega

/-- A block's points-to is its columns'. -/
theorem rowAt_pts {off : Fin 2 → Nat} (h : ∀ a, off a + S1x4096.size a ≤ S32x278528.size a) {w n : Nat} (ho : off = ![w, n]) (f : S32x278528.Idx → BitVec 32) :
    ((rowAt oV off h).view.loc (thr d L) ↦[(rowAt oV off h).view.set]{fullShare} (f : Buf (Elt F) (oLoc d)) : sProp 𝕄) = oPts d w n (n + 4096) f :=
  congrArg (fun s : Finset (Idx (oLoc d)) => (oLoc d ↦[s]{fullShare} (f : Buf (Elt F) (oLoc d)) : sProp 𝕄)) (rowAt_set h ho)

/-- A block written with its counters' words holds the output's. -/
theorem rowAt_landed {off : Fin 2 → Nat} (h : ∀ a, off a + S1x4096.size a ≤ S32x278528.size a) {w n : Nat} (ho : off = ![w, n]) (f : S32x278528.Idx → BitVec 32)
    (X : S4096.Idx → BitVec 32) (hX : ∀ x, X x = gWord w (n + (x 0).val)) :
    ((rowAt oV off h).view.loc (thr d L) ↦[(rowAt oV off h).view.set]{fullShare} ((rowAt oV off h).view.write (Elt F) f X Finset.univ) : sProp 𝕄)
      = oPts d w n (n + 4096) gBits := by
  rw [← rowAt_pts d L h ho gBits]
  refine pointsTo_congr fun i hi => ?_
  obtain ⟨x, -, rfl⟩ := Finset.mem_map.mp hi
  rw [View.write_emb_of_mem _ _ (Finset.mem_univ _)]
  refine (hX x).trans ?_
  have := rowAt_emb h x
  unfold gBits
  rw [this.1, this.2, ho]; rfl

/-! ## One buffer's turn -/

variable (M : Memref sig .scVector .vmem S4096 .i32) (sm : DmaSems sig S_)

/-- A buffer's transfer of block `n` of its row in flight. -/
abbrev Fly (w n : Nat) : sProp 𝕄 :=
  Transfers.Flight countersEmb (thr d L) (.dma sm.sem) (default : HIx 1) (sig.dmaCredit .scVector (Kind.scVector.table .hbm) (main_v0_scv : Ref sig .scVector).idx S4096 .i32)
    iprop(oPts d w n (n + 4096) gBits ∗ ∃ X, owns (thr d L) M fullShare X)

/-- A buffer's counter back, and its scratch free. -/
abbrev Free : sProp 𝕄 := iprop((∃ X, owns (thr d L) M fullShare X) ∗ semVal (thr d L, SemLoc.dma sm.sem) 0)

/-- Issuing the transfer of a filled buffer to its block. -/
theorem wp_send {off : Fin 2 → Nat} (h : ∀ a, off a + S1x4096.size a ≤ S32x278528.size a) {w n : Nat} (ho : off = ![w, n]) (f : S32x278528.Idx → BitVec 32)
    (X : S4096.Idx → BitVec 32) (hX : ∀ x, X x = gWord w (n + (x 0).val)) {hsrc : M.view.WordExact} {hdst : (rowAt oV off h).view.WordExact}
    {hsem : (DmaTarget.here (nD := nD) (p := (thr d L).2) (rowAt oV off h)).Typed .vmem (.dma sm.sem)} {α : Type} {k : PUnit → TV F L α} {Q : α → sProp 𝕄} :
    iprop(owns (thr d L) M fullShare X ∗ oPts d w n (n + 4096) f ∗ semVal (thr d L, SemLoc.dma sm.sem) 0)
      ⊢ iprop((Fly d L M sm w n -∗ wp frame (wpE (defs₀ (F := F)) 𝒱₀ (thr d L) none) Set.univ (k ⟨⟩) Q)
        -∗ wp frame (wpE (defs₀ (F := F)) 𝒱₀ (thr d L) none) Set.univ (.op (.enqueueDma M (.here (rowAt oV off h)) (.dma sm.sem) hsrc hdst hsem) k) Q) := by
  rw [← rowAt_pts d L h ho f]
  unfold owns
  iintro ⟨⟨%fs, %hfs, Hs⟩, Hd, Hv⟩ Hk
  iapply (Transfers.wp_dmaLocal countersEmb 𝒱₀ (thr d L) none (default : HIx 1)
    (sig.dmaCredit .scVector (Kind.scVector.table .hbm) (main_v0_scv : Ref sig .scVector).idx S4096 .i32) rfl
    (sig.dmaCredit_pos _ _ _ _ _ (by decide)) (Finset.Subset.refl _)) $$ [Hs Hd Hv]
  · isplitl [Hs]; · iexact Hs
    isplitl [Hd]; · iexact Hd
    iexact Hv
  iintro Hfl
  iapply Hk
  iapply (Transfers.Flight_mono countersEmb (thr d L) ?_) $$ Hfl
  iintro ⟨Hd, Hs⟩
  isplitl [Hd]
  · iapply (Entails.of_eq (rowAt_landed d L h ho f X hX))
    subst hfs
    iexact Hd
  · unfold owns
    iexists X, fs; isplitr; · ipureintro; exact hfs
    iexact Hs

/-- Waiting for a buffer's transfer. -/
theorem wp_wait {off : Fin 2 → Nat} (h : ∀ a, off a + S1x4096.size a ≤ S32x278528.size a) {w n : Nat} {hsrc : M.view.WordExact} {hdst : (rowAt oV off h).view.WordExact}
    {O : CellTallies nD τ sig (HIx 1)} {W : Waits sig (HIx 1)} {α : Type} {k : PUnit → TV F L α} {Q : α → sProp 𝕄} :
    iprop(Fly d L M sm w n ∗ owes (thr d L) O W ∗ Transfers.MayWaits (thr d L) (default : HIx 1) O)
      ⊢ iprop((iprop(oPts d w n (n + 4096) gBits ∗ Free d L M sm ∗ owes (thr d L) O (insert (SemLoc.dma sm.sem, default) W))
          -∗ wp frame (wpE (defs₀ (F := F)) 𝒱₀ (thr d L) none) Set.univ (k ⟨⟩) Q)
        -∗ wp frame (wpE (defs₀ (F := F)) 𝒱₀ (thr d L) none) Set.univ (.op (.waitDma2 sm.sem M (rowAt oV off h) hsrc hdst) k) Q) := by
  iintro ⟨Hf, HO, Hmw⟩ Hk
  iapply (Transfers.wp_waitLocalO countersEmb 𝒱₀ (thr d L) none (default : HIx 1)
    (show (rowAt oV off h).view.dmaCredit = sig.dmaCredit .scVector (Kind.scVector.table .hbm) (main_v0_scv : Ref sig .scVector).idx S4096 .i32 from rfl)) $$ [Hf HO Hmw]
  · isplitl [Hf]; · iexact Hf
    isplitl [HO]; · iexact HO
    iapply (Transfers.MayWaits.elim (SemLoc.dma sm.sem)) $$ Hmw
  iintro ⟨⟨Hd, HM⟩, Hv, HO⟩
  iapply Hk
  isplitl [Hd]; · iexact Hd
  isplitl [HM Hv]
  · isplitl [HM] <;> iassumption
  iexact HO

/-- What a tile may owe: what it owed, and its waits so far. -/
abbrev OwesOK (O : CellTallies nD τ sig (HIx 1)) (W : Waits sig (HIx 1)) : sProp 𝕄 :=
  iprop(∃ W', ⌜∀ p ∈ W', p ∈ W ∨ p.2 = none⌝ ∗ owes (thr d L) O W')

/-- A buffer before its turn in trip `t`: free in the first trip, else its previous transfer, of block `n`, in flight. -/
def Turn (t : Nat) (w n : Nat) : sProp 𝕄 := if t = 0 then Free d L M sm else Fly d L M sm w n

/-- A buffer's wait at the start of its turn, if it is not the first. -/
theorem wp_turn {off : Fin 2 → Nat} {cond : BitVec 1} {t w lo hi : Nat} (hc : cond = 1#1 ↔ t ≠ 0) (h0 : t = 0 → lo = 0 ∧ hi = 0) (h1 : t ≠ 0 → hi = lo + 4096)
    (h : cond = 1#1 → ∀ a, off a + S1x4096.size a ≤ S32x278528.size a) {hsrc : M.view.WordExact} {hdst : ∀ e : cond = 1#1, (rowAt oV off (h e)).view.WordExact}
    {O : CellTallies nD τ sig (HIx 1)} {W : Waits sig (HIx 1)} {rest : TV F L PUnit} {Q : PUnit → sProp 𝕄} :
    iprop(Turn d L M sm t w lo ∗ oPts d w 0 lo gBits ∗ OwesOK d L O W ∗ Transfers.MayWaits (thr d L) (default : HIx 1) O)
      ⊢ iprop((iprop(Free d L M sm ∗ oPts d w 0 hi gBits ∗ OwesOK d L O W) -∗ wp frame (wpE (defs₀ (F := F)) 𝒱₀ (thr d L) none) Set.univ rest Q)
        -∗ wp frame (wpE (defs₀ (F := F)) 𝒱₀ (thr d L) none) Set.univ
          (if e : cond = 1#1 then (do Prog.lift (.waitDma2 sm.sem M (rowAt oV off (h e)) hsrc (hdst e)); rest) else rest) Q) := by
  unfold Turn
  by_cases ht : t = 0
  · have hn : ¬ cond = 1#1 := fun e => hc.mp e ht
    obtain ⟨rfl, rfl⟩ := h0 ht
    rw [if_pos ht, dif_neg hn]
    iintro ⟨Hf, Ho, HO, -⟩ Hk
    iapply Hk
    isplitl [Hf]; · iexact Hf
    isplitl [Ho]; · iexact Ho
    iexact HO
  · have hp : cond = 1#1 := hc.mpr ht
    obtain rfl := h1 ht
    rw [if_neg ht, dif_pos hp]
    simp only [Prog.bind_lift]
    iintro ⟨Hf, Ho, ⟨%W', %hW', HO⟩, Hmw⟩ Hk
    iapply (wp_wait d L M sm (h hp)) $$ [Hf HO Hmw]
    · isplitl [Hf]; · iexact Hf
      isplitl [HO] <;> iassumption
    iintro ⟨Hd, HM, HO⟩
    iapply Hk
    isplitl [HM]; · iexact HM
    isplitl [Ho Hd]
    · iapply (oPts_join d (mid := lo) gBits (Nat.zero_le _) (by omega))
      isplitl [Ho] <;> iassumption
    iexists _; isplitr
    swap; · iexact HO
    ipureintro; intro p hp'
    rcases Finset.mem_insert.mp hp' with hp' | hp'
    · exact .inr (hp' ▸ rfl)
    · exact hW' p hp'

omit [FloatOps F] in
/-- The words a buffer is filled with are the output's. -/
theorem fill_gWord {b0 : BitVec 32} {w n : Nat} (hb : b0 = BitVec.ofNat 32 (w * 1000000 + 720938 + n)) (x : S4096.Idx) :
    bits (b0 + BitVec.ofNat 32 (x 0).val) = gWord w (n + (x 0).val) := by
  unfold gWord
  rw [hb, ← BitVec.ofNat_add, Nat.add_assoc]

omit [FloatOps F] in
theorem cond1_iff : ∀ t : Fin k0_t1_loop.trips, k0_cond1 t = 1#1 ↔ t.val ≠ 0 := by decide
omit [FloatOps F] in
theorem cond2_iff : ∀ t : Fin k0_t1_loop.trips, k0_cond2 t = 1#1 ↔ t.val ≠ 0 := by decide

/-- The counter's arithmetic, of a tile's two coordinates and a trip. -/
theorem trip0_nat (a b t : Nat) :
    ((BitVec.ofNat 32 a * 2#32 + BitVec.ofNat 32 b) * 1000000#32 + 720938#32) + (0#32 + BitVec.ofNat 32 t * 1#32) * 8192#32
      = BitVec.ofNat 32 ((2 * a + b) * 1000000 + 720938 + 8192 * t) := by
  simp only [← BitVec.ofNat_add, ← BitVec.ofNat_mul]
  exact congrArg (BitVec.ofNat 32) (by ring)

omit [FloatOps F] in
/-- The first counter of a trip. -/
theorem trip0_eq (t : Fin k0_t1_loop.trips) : trip0 L t = BitVec.ofNat 32 (rowOf L * 1000000 + 720938 + 8192 * t.val) :=
  trip0_nat (L 1).val (L 0).val t.val

/-- A program, then its continuation. -/
theorem wp_seq {α β : Type} {p : TV F L α} {k : α → TV F L β} {Q : β → sProp 𝕄} :
    (wp frame (wpE (defs₀ (F := F)) 𝒱₀ (thr d L) none) Set.univ p fun a => wp frame (wpE (defs₀ (F := F)) 𝒱₀ (thr d L) none) Set.univ (k a) Q)
      ⊢ wp frame (wpE (defs₀ (F := F)) 𝒱₀ (thr d L) none) Set.univ (Prog.bind p k) Q :=
  Entails.of_eq (wp_bind frame _ Set.univ p k Q).symm

variable (sa sb : DmaSems sig S_) (f₀ : S32x278528.Idx → BitVec 32)

/-- Before trip `t`: the two buffers' turns, the columns delivered, the columns untouched. -/
def Inv (O : CellTallies nD τ sig (HIx 1)) (W : Waits sig (HIx 1)) (t : Nat) : sProp 𝕄 :=
  iprop(Transfers.MayWaits (thr d L) (default : HIx 1) O ∗ Turn d L aV sa t (rowOf L) (8192 * t - 8192) ∗ Turn d L bV sb t (rowOf L) (8192 * t - 4096)
    ∗ oPts d (rowOf L) 0 (8192 * t - 8192) gBits ∗ oPts d (rowOf L) (8192 * t) 278528 f₀ ∗ OwesOK d L O W)

/-- A trip. -/
theorem wp_scTrip (t : Fin k0_t1_loop.trips) (O : CellTallies nD τ sig (HIx 1)) (W : Waits sig (HIx 1)) :
    Inv d L sa sb f₀ O W t.val ⊢ wp frame (wpE (defs₀ (F := F)) 𝒱₀ (thr d L) none) Set.univ
      (scTrip L oV aV (Memref.isWhole_whole _) bV (Memref.isWhole_whole _) sa sb t) fun _ => Inv d L sa sb f₀ O W (t.val + 1) := by
  have ht : t.val < 34 := t.isLt
  unfold scTrip Inv
  simp only [pure_bind]
  iintro ⟨#Hmw, Ha, Hb, Hg, Hf, HO⟩
  iapply (wp_turn d L aV sa (lo := 8192 * t.val - 8192) (hi := 8192 * t.val - 4096) (cond1_iff t) (by omega) (by omega) _) $$ [Ha Hg HO Hmw]
  · isplitl [Ha]; · iexact Ha
    isplitl [Hg]; · iexact Hg
    isplitl [HO]; · iexact HO
    iexact Hmw
  iintro ⟨⟨Ha, Hsa⟩, Hg, HO⟩
  rw [wp_bind]
  iapply (wp_wand_r frame _ Set.univ)
  isplitl [Ha]
  · iapply (wp_fillBuf d L aV (trip0 L t)) $$ Ha
  iintro %_ Ha
  ihave Hf2 := (oPts_split d (mid := 8192 * t.val + 4096) f₀ (by omega) (by omega)) $$ Hf
  icases Hf2 with ⟨Hf1, Hf⟩
  simp only [Prog.bind_lift]
  iapply (wp_send d L aV sa _ (k0_off3_eq L t) f₀ _ (fill_gWord (trip0_eq L t))) $$ [Ha Hf1 Hsa]
  · isplitl [Ha]; · iexact Ha
    isplitl [Hf1]; · iexact Hf1
    iexact Hsa
  iintro Ha
  iapply (wp_turn d L bV sb (lo := 8192 * t.val - 4096) (hi := 8192 * t.val) (cond2_iff t) (by omega) (by omega) _) $$ [Hb Hg HO Hmw]
  · isplitl [Hb]; · iexact Hb
    isplitl [Hg]; · iexact Hg
    isplitl [HO]; · iexact HO
    iexact Hmw
  iintro ⟨⟨Hb, Hsb⟩, Hg, HO⟩
  iapply (wp_seq d L)
  iapply (wp_wand_r frame _ Set.univ)
  isplitl [Hb]
  · iapply (wp_fillBuf d L bV _) $$ Hb
  iintro %_ Hb
  ihave Hf2 := (oPts_split d (mid := 8192 * t.val + 4096 + 4096) f₀ (by omega) (by omega)) $$ Hf
  icases Hf2 with ⟨Hf1, Hf⟩
  have hb0 : Scalar.addi (trip0 L t) 4096#32 = BitVec.ofNat 32 (rowOf L * 1000000 + 720938 + (8192 * t.val + 4096)) := by
    rw [trip0_eq]
    show _ + BitVec.ofNat 32 4096 = _
    rw [← BitVec.ofNat_add, Nat.add_assoc]
  iapply (wp_send d L bV sb _ (k0_off6_eq L t) f₀ _ (fill_gWord hb0)) $$ [Hb Hf1 Hsb]
  · isplitl [Hb]; · iexact Hb
    isplitl [Hf1]; · iexact Hf1
    iexact Hsb
  iintro Hb
  simp only [Prog.pure_eq_ret, wp_ret]
  imodintro
  isplitr; · iexact Hmw
  unfold Turn
  rw [if_neg (Nat.succ_ne_zero _), if_neg (Nat.succ_ne_zero _), show 8192 * (t.val + 1) - 8192 = 8192 * t.val by omega,
    show 8192 * (t.val + 1) - 4096 = 8192 * t.val + 4096 by omega, show 8192 * (t.val + 1) = 8192 * t.val + 4096 + 4096 by omega]
  isplitl [Ha]; · iexact Ha
  isplitl [Hb]; · iexact Hb
  isplitl [Hg]; · iexact Hg
  isplitl [Hf]; · iexact Hf
  iexact HO

/-- A tile's task: its row at any contents becomes its row of words. -/
theorem wp_scBody (O : CellTallies nD τ sig (HIx 1)) (W : Waits sig (HIx 1)) :
    iprop(Transfers.MayWaits (thr d L) (default : HIx 1) O ∗ Free d L aV sa ∗ Free d L bV sb ∗ oPts d (rowOf L) 0 278528 f₀ ∗ owes (thr d L) O W)
      ⊢ wp frame (wpE (defs₀ (F := F)) 𝒱₀ (thr d L) none) Set.univ
          (scBody L oV aV (Memref.isWhole_whole _) bV (Memref.isWhole_whole _) sa sb)
          fun _ => iprop(Free d L aV sa ∗ Free d L bV sb ∗ oPts d (rowOf L) 0 278528 gBits ∗ OwesOK d L O W) := by
  unfold scBody
  rw [wp_bind]
  iintro ⟨#Hmw, Ha, Hb, Ho, HO⟩
  iapply (Scf.wp_for frame (wpE (defs₀ (F := F)) 𝒱₀ (thr d L) none) Set.univ _ _ _ k0_t1_ok PUnit.unit _
    (fun k _ => Inv d L sa sb f₀ O W k) (fun t _ => wp_scTrip d L sa sb f₀ t O W))
  isplitl [Ha Hb Ho HO]
  · unfold Inv Turn
    rw [if_pos rfl, if_pos rfl]
    isplitr; · iexact Hmw
    isplitl [Ha]; · iexact Ha
    isplitl [Hb]; · iexact Hb
    isplitr
    · iapply (oPts_empty d (rowOf L) 0 gBits); iempintro
    isplitl [Ho]; · iexact Ho
    iexists W; isplitr
    · ipureintro; intro p hp; exact .inl hp
    iexact HO
  iintro %_ HI
  unfold Inv Turn
  rw [show Scf.trips k0_t1_loop.lb k0_t1_loop.ub k0_t1_loop.st = 34 from rfl, if_neg (by decide), if_neg (by decide)]
  icases HI with ⟨-, Ha, Hb, Hg, -, ⟨%W', %hW', HO⟩⟩
  simp only [Prog.bind_lift]
  iapply (wp_wait d L aV sa _) $$ [Ha HO]
  · isplitl [Ha]; · iexact Ha
    isplitl [HO]; · iexact HO
    iexact Hmw
  iintro ⟨Hd, Ha, HO⟩
  ihave Hg := (oPts_join d (w := rowOf L) (lo := 0) (mid := 8192 * 34 - 8192) (hi := 8192 * 34 - 4096) gBits (by omega) (by omega)) $$ [Hg Hd]
  · isplitl [Hg]; · iexact Hg
    iexact Hd
  iapply (wp_wait d L bV sb _) $$ [Hb HO]
  · isplitl [Hb]; · iexact Hb
    isplitl [HO]; · iexact HO
    iexact Hmw
  iintro ⟨Hd, Hb, HO⟩
  ihave Hg := (oPts_join d (w := rowOf L) (lo := 0) (mid := 8192 * 34 - 4096) (hi := 278528) gBits (by omega) (by omega)) $$ [Hg Hd]
  · isplitl [Hg]; · iexact Hg
    iexact Hd
  simp only [Prog.pure_eq_ret, wp_ret]
  imodintro
  isplitl [Ha]; · iexact Ha
  isplitl [Hb]; · iexact Hb
  isplitl [Hg]; · iexact Hg
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

end Cert.Proof

end
-- ==== Proof.Launch.lean ====
/- The tiles' obligation: from the launch's resources of a tile to its task and back. -/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Launch

variable (d : Dev nD) (L : grid0.Coords)

/-- The semaphore of the first scratch buffer on a tile. -/
abbrev aCell (d : Dev nD) (c : Fin τ.nSC) (i : Fin τ.nSub) : GSem nD τ sig := (V d c i, .dma cc0_scratch2.sem)
/-- The semaphore of the second scratch buffer on a tile. -/
abbrev bCell (d : Dev nD) (c : Fin τ.nSC) (i : Fin τ.nSub) : GSem nD τ sig := (V d c i, .dma cc0_scratch3.sem)

omit [FloatOps F] in
/-- The two semaphores among a tile's own. -/
theorem ownSems0_tile :
    (ownSems0 (thr d L) : sProp 𝕄)
      = iprop(semVal (aCell d (cV L) (jV L)) 0 ∗ semVal (bCell d (cV L) (jV L)) 0
          ∗ bigSep (((ownCells (thr d L)).erase (aCell d (cV L) (jV L))).erase (bCell d (cV L) (jV L))) fun g => semVal g 0) := by
  unfold SparseCore.Cfg.ownSems0
  rw [SparseCore.bigSep_erase' ((mem_ownCells (g := aCell d (cV L) (jV L))).mpr ⟨rfl, by
      show (SemLoc.dma cc0_scratch2.sem : SemLoc sig).isScoped .scVector = true; decide⟩),
    SparseCore.bigSep_erase' (Finset.mem_erase.mpr ⟨by simp [aCell, bCell]; decide, (mem_ownCells (g := bCell d (cV L) (jV L))).mpr ⟨rfl, by
      show (SemLoc.dma cc0_scratch3.sem : SemLoc sig).isScoped .scVector = true; decide⟩⟩)]

omit [FloatOps F] in
/-- The two scratch buffers among a tile's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A scratch buffer's contents as the whole memref reads them. -/
theorem owns_of_buf {b : Ref sig .scVector} {q : PosShare TreeShare} :
    iprop(∃ f, (thr d L).loc b ↦{q} f) ⊢ (iprop(∃ X, owns (thr d L) (Memref.whole b) q X) : sProp 𝕄) := by
  iintro ⟨%f, Hf⟩
  iexists f
  iapply (Entails.of_eq (owns_whole (c := thr d L) b q f).symm) $$ Hf

omit [FloatOps F] in
/-- And back. -/
theorem buf_of_owns {b : Ref sig .scVector} {q : PosShare TreeShare} :
    iprop(∃ X, owns (thr d L) (Memref.whole b) q X) ⊢ (iprop(∃ f, (thr d L).loc b ↦{q} f) : sProp 𝕄) := by
  iintro ⟨%f, Hf⟩
  iexists f
  iapply (Entails.of_eq (owns_whole (c := thr d L) b q f)) $$ Hf

variable (m : (ℓ : Loc nD τ sig) → Buf (Elt F) ℓ)

/-- A tile's task from what the launch hands it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ rowIn m d (rowOf L) ∗ scopedBufs (thr d L) ∗ scopedSems0 (thr d L) ∗ owes (thr d L) O W)
      ⊢ wp frame (wpE (defs₀ (F := F)) 𝒱₀ (thr d L) none) Set.univ
          (cc0__sc_bits_body L oV (Memref.isWhole_whole _) aV (Memref.isWhole_whole _) bV (Memref.isWhole_whole _) cc0_scratch2 cc0_scratch3)
          fun _ => iprop(rowOut d (rowOf L) ∗ scopedBufs (thr d L) ∗ scopedSems0 (thr d L) ∗ ∃ W', ⌜∀ p ∈ W', p ∈ W ∨ p.2 = none⌝ ∗ owes (thr d L) O W') := by
  rw [scBody_eq, (K (F := F)).scopedBufs_V hF d (cV L) (jV L), SparseCore.Cfg.scopedSems0_V (Val := Elt F) d (cV L) (jV L), ownSems0_tile, ownBufs_tile]
  iintro ⟨#Hlv, -, Ho, ⟨Ha, Hb, Hbufs⟩, ⟨HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Ha := (owns_of_buf d L) $$ Ha
  ihave Hb := (owns_of_buf d L) $$ Hb
  iapply (wp_wand_r frame _ Set.univ)
  isplitl [Hmw Ha Hb HsemA HsemB Ho HO]
  · iapply (wp_scBody d L cc0_scratch2 cc0_scratch3 (m (oLoc d)) O W)
    isplitl [Hmw]; · iexact Hmw
    isplitl [Ha HsemA]
    · isplitl [Ha]; · iexact Ha
      iexact HsemA
    isplitl [Hb HsemB]
    · isplitl [Hb]; · iexact Hb
      iexact HsemB
    isplitl [Ho]; · iexact Ho
    iexact HO
  iintro %_ ⟨⟨Ha, HsemA⟩, ⟨Hb, HsemB⟩, Ho, HO⟩
  isplitl [Ho]; · iexact Ho
  isplitl [Ha Hb Hbufs]
  · isplitl [Ha]; · iapply (buf_of_owns d L (b := cc0_scratch0) (q := fullShare)) $$ Ha
    isplitl [Hb]; · iapply (buf_of_owns d L (b := cc0_scratch1) (q := fullShare)) $$ Hb
    iexact Hbufs
  isplitl [HsemA HsemB Hsems]
  · isplitl [HsemA]; · iexact HsemA
    isplitl [HsemB]; · iexact HsemB
    iexact Hsems
  iexact HO

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The program that a tile runs for the call. -/
theorem defs₀_vector (c : Fin τ.nSC) (s : Fin τ.nSub) :
    defs₀ (F := F) (.scVector c s) 0 ()
      = SparseCore.onTile hcore0 hsub0 (fun c s => cc0__sc_bits_body (coordsV c s)
          oV (Memref.isWhole_whole _) aV (Memref.isWhole_whole _) bV (Memref.isWhole_whole _) cc0_scratch2 cc0_scratch3) ⟨⟩ c s := rfl

omit [FloatOps F] in
/-- A tile waits for its own transfers alone. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets the launch's obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => obl_post)

end Launch

end Cert.Proof

end
-- ==== Proof.Main.lean ====
/- The whole program: the SparseCore call and the two TensorCore regions, from launch to end. -/
module

public import proofs.«01_k».proof.Proof.Dats
public import proofs.«01_k».proof.Proof.Launch
public import proofs.«01_k».proof.Proof.Table
public import Idealize.ShloMosaic.Lib.Pipeline.RegionsLoop
public import Idealize.ShloMosaic.Lib.Pipeline.RegionArrays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The buffers' contents between the program's steps -/

/-- The contents of a core's buffers: as launched, but for the table, the words, the first region's two results and
    the second's. -/
def conts (c : Dev nD) (tb : S32x128.Idx → BitVec 32) (o : S32x278528.Idx → BitVec 32) (a : S32x128.Idx → F .f32) (b : S32x128.Idx → BitVec 32)
    (r : S32x1.Idx → BitVec 32) : (b : Ref sig .tc) → Buf (Elt F) ((tcT c).loc b) :=
  Function.update (Function.update (Function.update (Function.update (Function.update
    (fun b : Ref sig .tc => m ((tcT c).loc b)) main_c tb) main_v0 o) main_v1_0 a) main_v1_1 b) main_v2 r

section Conts

variable (c : Dev nD) (tb : S32x128.Idx → BitVec 32) (o : S32x278528.Idx → BitVec 32) (a : S32x128.Idx → F .f32) (b : S32x128.Idx → BitVec 32)
  (r : S32x1.Idx → BitVec 32)

/-- The weights are as launched. -/
theorem conts_arg0 : conts m c tb o a b r main_arg0 = m ((tcT c).loc main_arg0) := by
  unfold conts
  rw [Function.update_of_ne (by decide), Function.update_of_ne (by decide), Function.update_of_ne (by decide), Function.update_of_ne (by decide),
    Function.update_of_ne (by decide)]
/-- The table. -/
theorem conts_c : conts m c tb o a b r main_c = tb := by
  unfold conts
  rw [Function.update_of_ne (by decide), Function.update_of_ne (by decide), Function.update_of_ne (by decide), Function.update_of_ne (by decide),
    Function.update_self]
/-- The words. -/
theorem conts_v0 : conts m c tb o a b r main_v0 = o := by
  unfold conts
  rw [Function.update_of_ne (by decide), Function.update_of_ne (by decide), Function.update_of_ne (by decide), Function.update_self]
/-- The first region's values. -/
theorem conts_v1_0 : conts m c tb o a b r main_v1_0 = a := by
  unfold conts
  rw [Function.update_of_ne (by decide), Function.update_of_ne (by decide), Function.update_self]
/-- The first region's places. -/
theorem conts_v1_1 : conts m c tb o a b r main_v1_1 = b := by
  unfold conts
  rw [Function.update_of_ne (by decide), Function.update_self]
/-- The second region's result. -/
theorem conts_v2 : conts m c tb o a b r main_v2 = r := by
  unfold conts
  rw [Function.update_self]

/-- The first region changes only its results. -/
theorem conts_off1 (a' : S32x128.Idx → F .f32) (b' : S32x128.Idx → BitVec 32) {x : Ref sig .tc} (h3 : x ≠ main_v1_0) (h4 : x ≠ main_v1_1) :
    conts m c tb o a b r x = conts m c tb o a' b' r x := by
  unfold conts
  by_cases h5 : x = main_v2
  · subst h5; rw [Function.update_self, Function.update_self]
  · rw [Function.update_of_ne h5, Function.update_of_ne h4, Function.update_of_ne h3, Function.update_of_ne h5, Function.update_of_ne h4,
      Function.update_of_ne h3]
/-- The second region changes only its result. -/
theorem conts_off2 (r' : S32x1.Idx → BitVec 32) {x : Ref sig .tc} (h5 : x ≠ main_v2) : conts m c tb o a b r x = conts m c tb o a b r' x := by
  unfold conts
  rw [Function.update_of_ne h5, Function.update_of_ne h5]

/-- A core's unscoped buffers, one by one. -/
theorem bufs_eq (W : (b : Ref sig .tc) → Buf (Elt F) ((tcT c).loc b)) :
    (unscopedBufs c W : sProp 𝕄) = iprop(((tcT c).loc main_arg0 ↦{fullShare} W main_arg0) ∗ ((tcT c).loc main_c ↦{fullShare} W main_c)
      ∗ ((tcT c).loc main_v0 ↦{fullShare} W main_v0) ∗ ((tcT c).loc main_v1_0 ↦{fullShare} W main_v1_0)
      ∗ ((tcT c).loc main_v1_1 ↦{fullShare} W main_v1_1) ∗ (tcT c).loc main_v2 ↦{fullShare} W main_v2) := by
  unfold unscopedBufs
  rw [show (Finset.univ.filter fun b : Ref sig .tc => ¬ b.isScoped) = {main_arg0, main_c, main_v0, main_v1_0, main_v1_1, main_v2} by decide,
    SparseCore.bigSep_insert' (by decide), SparseCore.bigSep_insert' (by decide), SparseCore.bigSep_insert' (by decide),
    SparseCore.bigSep_insert' (by decide), SparseCore.bigSep_insert' (by decide), bigSep_singleton]

/-- A buffer at given contents. -/
abbrev at_ (b : Ref sig .tc) (f : Buf (Elt F) ((tcT c).loc b)) : sProp 𝕄 := (tcT c).loc b ↦{fullShare} f

/-- The buffers at the contents above. -/
theorem conts_eq : (unscopedBufs c (conts m c tb o a b r) : sProp 𝕄) = iprop(at_ c main_arg0 (m ((tcT c).loc main_arg0)) ∗ at_ (F := F) c main_c tb
      ∗ at_ (F := F) c main_v0 o ∗ at_ c main_v1_0 a ∗ at_ (F := F) c main_v1_1 b ∗ at_ (F := F) c main_v2 r) := by
  rw [bufs_eq, conts_arg0, conts_c, conts_v0, conts_v1_0, conts_v1_1, conts_v2]

end Conts

/-- The weights, as the mathematics has them. -/
abbrev xOf (c : Dev nD) : S32x1000000.Idx → F .f32 := m ((tcT c).loc main_arg0)

/-- The waits recorded so far, none higher than the launch's, and nothing owed. -/
abbrev owesLow (c : Dev nD) : sProp 𝕄 := iprop(∃ W, ⌜(K (F := F)).WBelow (T c) W 8⌝ ∗ owes (T c) (0 : CellTallies nD τ sig (HIx 1)) W)

/-! ## The two regions -/

/-- No pipeline has prefetched tables. -/
abbrev adm : (p : Fin 2) → (pcfgs (F := F) p).Adm := fun p => (cfgs p).toPCfg_adm

/-- The two regions' data. -/
def pdats : (p : Fin 2) → (c : Dev nD) → Pipeline.Dat τ (Elt F) (HIx 1) ℕ UU ℕ (Pipeline.pin (pcfgs (F := F)) adm p) c
  | 0 => fun c => dat1 (xOf m c) (m ((tcT c).loc main_v1_0)) (m ((tcT c).loc main_v1_1)) c
  | 1 => fun c => dat2 (xOf m c) (m ((tcT c).loc main_v2)) c

/-- Before the first region. -/
abbrev V0 (c : Dev nD) : (b : Ref sig .tc) → Buf (Elt F) ((tcT c).loc b) :=
  conts m c vBase gBits (m ((tcT c).loc main_v1_0)) (m ((tcT c).loc main_v1_1)) (m ((tcT c).loc main_v2))
/-- Between the regions. -/
abbrev V1 (c : Dev nD) : (b : Ref sig .tc) → Buf (Elt F) ((tcT c).loc b) :=
  conts m c vBase gBits (result1 (xOf m c)).1 (result1 (xOf m c)).2 (m ((tcT c).loc main_v2))
/-- After the second. -/
abbrev V2 (c : Dev nD) : (b : Ref sig .tc) → Buf (Elt F) ((tcT c).loc b) :=
  conts m c vBase gBits (result1 (xOf m c)).1 (result1 (xOf m c)).2 (result2 (xOf m c))

/-- A pipeline's own waits are the lowest. -/
theorem low_of_owes {c : Dev nD} {cfg : Pipeline.Cfg sig Λ₀} (dat : Pipeline.Dat τ (Elt F) (HIx 1) ℕ UU ℕ cfg c) (t : Fin (cfg.N + 1))
    (h0 : dat.owed t = 0) (hr : dat.recorded t = recW (F := F) c) : (dat.owesAt none t : sProp 𝕄) ⊢ owesLow c := by
  unfold Pipeline.Dat.owesAt Pipeline.owesWithin Pipeline.Dat.bound
  rw [h0, hr]
  iintro ⟨%W, %hW, HO⟩
  iexists W
  isplitr
  · ipureintro
    intro p hp
    rcases hW hp with h | ⟨w, s, rfl⟩
    · exact h
    · exact Nat.zero_le _
  iexact HO

/-- What the launch recorded fits a pipeline's bound. -/
theorem owes_of_low {c : Dev nD} {cfg : Pipeline.Cfg sig Λ₀} (dat : Pipeline.Dat τ (Elt F) (HIx 1) ℕ UU ℕ cfg c) (t : Fin (cfg.N + 1))
    (h0 : dat.owed t = 0) (hr : dat.recorded t = recW (F := F) c) : owesLow c ⊢ (dat.owesAt none t : sProp 𝕄) := by
  unfold Pipeline.Dat.owesAt Pipeline.owesWithin Pipeline.Dat.bound
  rw [h0, hr]
  iintro ⟨%W, %hW, HO⟩
  iexists W
  isplitr
  · ipureintro; exact fun p hp => Or.inl (hW p hp)
  iexact HO

/-- A region's segment of the program. -/
abbrev Seg' (p : Fin 2) := Pipeline.RegionSeg (pcfgs (F := F)) adm (pdats m) none defs₀ 𝒱₀ (K (F := F)).L (K (F := F)).lev p

/-- The first region writes its values' buffer, -/
theorem mem1_3 : main_v1_0 ∈ Finset.univ.image (Pipeline.arrRef spec1) := by decide
/-- its places' buffer, -/
theorem mem1_4 : main_v1_1 ∈ Finset.univ.image (Pipeline.arrRef spec1) := by decide
/-- and the second region the result's. -/
theorem mem2_5 : main_v2 ∈ Finset.univ.image (Pipeline.arrRef spec2) := by decide

/-- The second region holds its arrays whole. -/
theorem share2 (c : Dev nD) (w : Fin cfg2.W) : (pdats m 1 c).share w = fullShare := by
  unfold Pipeline.Dat.share
  split_ifs <;> rfl

/-- The first region: from the table, the weights and the words to its two results. -/
def reg1 : Seg' m 0 where
  win := winFacts₀1
  block_pos := block_pos1
  stage_whole := stage_whole1
  K := PEmpty
  osem k := k.elim
  ho := Pipeline.OwnSemFacts.none _
  hbody c := hbody1 _ _ _ c
  hwaits := Pipeline.hwaits_of_owed_zero _ _ _ _ (K (F := F)).L (K (F := F)).lev 0 fun _ _ => rfl
  pre c := iprop(unscopedBufs c (V0 m c) ∗ owesLow c)
  post c := iprop(unscopedBufs c (V1 m c) ∗ owesLow c)
  X _ := iprop(emp)
  Y _ := iprop(emp)
  Z c := Pipeline.unscopedRest spec1 c (V0 m c)
  hentry c := by
    rw [Pipeline.ownSems0_none, Pipeline.prefHeld_of_none _ rfl]
    iintro ⟨⟨HB, HO⟩, -, -⟩
    imodintro
    ihave H := (Pipeline.arrays_of_unscopedBufs_shared pcfgs adm (pdats m) (p := 0) winFacts₀1 sharedIn1 arr_whole1 c (fun w _ => rfl) (V0 m c) (fun w => by
      fin_cases w
      · exact (conts_c ..).symm
      · exact (conts_arg0 ..).symm
      · exact (conts_arg0 ..).symm
      · exact (conts_v1_0 ..).symm
      · exact (conts_v1_1 ..).symm)) $$ HB
    icases H with ⟨HA, HR⟩
    isplitl [HA]; · iexact HA
    isplitr; · iempintro
    isplitl [HO]; · iapply (owes_of_low (pdats m 0 c) 0 rfl rfl); iexact HO
    isplitr; · iempintro
    iexact HR
  hin c := by
    show iprop(_ ∗ _ ∗ Pipeline.scopedRest spec1 c) ⊢ inv1 (xOf m c) c 0
    rw [scopedRest1_eq]
    unfold inv1
    iintro ⟨-, -, ⟨%f, Hf⟩, ⟨%g, Hg⟩, HR⟩
    isplitl [Hf Hg]
    · iexists ((f, g) : LState F)
      isplitr; · ipureintro; intro p hp; exact absurd hp (Nat.succ_ne_zero p).symm
      isplitl [Hf]
      · iapply (Entails.of_eq (owns_whole (c := tcT c) cc1_scratch0 fullShare f).symm); iexact Hf
      · iapply (Entails.of_eq (owns_whole (c := tcT c) cc1_scratch1 fullShare g).symm); iexact Hg
    iexact HR
  hout c := by
    show inv1 (xOf m c) c _ ⊢ iprop(_ ∗ _ ∗ Pipeline.scopedRest spec1 c)
    rw [scopedRest1_eq, Pipeline.ownSems0_none]
    unfold inv1
    iintro ⟨⟨%s, -, Hf, Hg⟩, HR⟩
    isplitr; · iempintro
    isplitr; · iempintro
    isplitl [Hf]
    · iexists s.1; iapply (Entails.of_eq (owns_whole (c := tcT c) cc1_scratch0 fullShare s.1)); iexact Hf
    isplitl [Hg]
    · iexists s.2; iapply (Entails.of_eq (owns_whole (c := tcT c) cc1_scratch1 fullShare s.2)); iexact Hg
    iexact HR
  hexit c := by
    iintro ⟨HA, HO, -, HZ⟩
    imodintro
    isplitl [HA HZ]
    · iapply (Pipeline.unscopedBufs_of_arrays_shared pcfgs adm (p := 0) winFacts₀1 sharedIn1 arr_whole1 c (pdats m) (fun w _ => rfl) (V0 m c) (V1 m c)
        ((pdats m 0 c).arrAt · _) (fun w => by
          fin_cases w
          · exact ((pdats m 0 c).arrAt_in 0 rfl _).trans (conts_c ..).symm
          · exact ((pdats m 0 c).arrAt_in 1 rfl _).trans (conts_arg0 ..).symm
          · exact ((pdats m 0 c).arrAt_in 2 rfl _).trans (conts_arg0 ..).symm
          · exact (out1_3 ..).trans (conts_v1_0 ..).symm
          · exact (out1_4 ..).trans (conts_v1_1 ..).symm) (fun b hb => by
          have h3 : b ≠ main_v1_0 := fun e => hb (e ▸ mem1_3)
          have h4 : b ≠ main_v1_1 := fun e => hb (e ▸ mem1_4)
          exact conts_off1 _ _ _ _ _ _ _ _ _ h3 h4))
      isplitl [HA]; · iexact HA
      iexact HZ
    iapply (low_of_owes (pdats m 0 c) _ rfl rfl); iexact HO

/-- The second region: from the first's results, the weights and the words to the program's result. -/
def reg2 : Seg' m 1 where
  win := winFacts2.to₀
  block_pos := block_pos2
  stage_whole := stage_whole2
  K := PEmpty
  osem k := k.elim
  ho := Pipeline.OwnSemFacts.none _
  hbody c := hbody2 _ _ c
  hwaits := Pipeline.hwaits_of_owed_zero _ _ _ _ (K (F := F)).L (K (F := F)).lev 1 fun _ _ => rfl
  pre c := iprop(unscopedBufs c (V1 m c) ∗ owesLow c)
  post c := iprop(unscopedBufs c (V2 m c) ∗ owesLow c)
  X _ := iprop(emp)
  Y _ := iprop(emp)
  Z c := Pipeline.unscopedRest spec2 c (V1 m c)
  hentry c := by
    rw [Pipeline.ownSems0_none, Pipeline.prefHeld_of_none _ rfl]
    iintro ⟨⟨HB, HO⟩, -, -⟩
    imodintro
    ihave H := (Pipeline.arrays_of_unscopedBufs pcfgs adm (pdats m) (p := 1) winFacts2 arr_whole2 c (share2 m c) (V1 m c) (fun w => by
      fin_cases w
      · exact (conts_c ..).symm
      · exact (conts_v1_0 ..).symm
      · exact (conts_v1_1 ..).symm
      · exact (conts_arg0 ..).symm
      · exact (conts_v0 ..).symm
      · exact (conts_v2 ..).symm)) $$ HB
    icases H with ⟨HA, HR⟩
    isplitl [HA]; · iexact HA
    isplitr; · iempintro
    isplitl [HO]; · iapply (owes_of_low (pdats m 1 c) 0 rfl rfl); iexact HO
    isplitr; · iempintro
    iexact HR
  hin c := by
    show iprop(_ ∗ _ ∗ Pipeline.scopedRest spec2 c) ⊢ inv2 (xOf m c) c 0
    rw [scopedRest2_eq]
    unfold inv2
    iintro ⟨-, -, H1, H2, H3, H4, H5, H6, H7, H8, ⟨%f, Hf⟩, ⟨%g, Hg⟩⟩
    isplitl [Hf Hg]
    · iexists ((f, g) : LState F)
      isplitr; · ipureintro; intro p hp; exact absurd hp (Nat.succ_ne_zero p).symm
      isplitl [Hf]
      · iapply (Entails.of_eq (owns_whole (c := tcT c) cc2_scratch0 fullShare f).symm); iexact Hf
      · iapply (Entails.of_eq (owns_whole (c := tcT c) cc2_scratch1 fullShare g).symm); iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  hout c := by
    show inv2 (xOf m c) c _ ⊢ iprop(_ ∗ _ ∗ Pipeline.scopedRest spec2 c)
    rw [scopedRest2_eq, Pipeline.ownSems0_none]
    unfold inv2
    iintro ⟨⟨%s, -, Hf, Hg⟩, H1, H2, H3, H4, H5, H6, H7, H8⟩
    isplitr; · iempintro
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hf]
    · iexists s.1; iapply (Entails.of_eq (owns_whole (c := tcT c) cc2_scratch0 fullShare s.1)); iexact Hf
    iexists s.2; iapply (Entails.of_eq (owns_whole (c := tcT c) cc2_scratch1 fullShare s.2)); iexact Hg
  hexit c := by
    iintro ⟨HA, HO, -, HZ⟩
    imodintro
    isplitl [HA HZ]
    · iapply (Pipeline.unscopedBufs_of_arrays pcfgs adm (p := 1) winFacts2 arr_whole2 c (pdats m) (share2 m c) (V1 m c) (V2 m c)
        ((pdats m 1 c).arrAt · _) (fun w => by
          fin_cases w
          · exact ((pdats m 1 c).arrAt_in 0 rfl _).trans (conts_c ..).symm
          · exact ((pdats m 1 c).arrAt_in 1 rfl _).trans (conts_v1_0 ..).symm
          · exact ((pdats m 1 c).arrAt_in 2 rfl _).trans (conts_v1_1 ..).symm
          · exact ((pdats m 1 c).arrAt_in 3 rfl _).trans (conts_arg0 ..).symm
          · exact ((pdats m 1 c).arrAt_in 4 rfl _).trans (conts_v0 ..).symm
          · exact (out2_5 ..).trans (conts_v2 ..).symm) (fun b hb => by
          have h5 : b ≠ main_v2 := fun e => hb (e ▸ mem2_5)
          exact conts_off2 _ _ _ _ _ _ _ _ h5))
      isplitl [HA]; · iexact HA
      iexact HZ
    iapply (low_of_owes (pdats m 1 c) _ rfl rfl); iexact HO

end Cert.Proof

end
-- ==== Proof.Run.lean ====
/- The run: the launch's ghost state, the program on the TensorCore, and what a final state holds. -/
module

public import proofs.«01_k».proof.Proof.Main

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- Where the pipelines' ghost state lies. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The pipelines, with no tables to choose. -/
abbrev pins := Pipeline.pin (pcfgs (F := F)) adm

/-- No two staging buffers share a semaphore. -/
theorem pins_inj : Function.Injective (Pipeline.cellOf (nD := nD) (τ := τ) (pins (F := F))) := cellOf_inj

/-- What the launch starts from: the handshakes' state and the pipelines'. -/
def u₀ : UU := (initOf (K (F := F)).hsCells (K (F := F)).hsToks,
  (initOf (Pipeline.cells (pins (F := F)) pins_inj) (Pipeline.launchToks (pins (F := F)) pins_inj), 1))

/-- A TensorCore's share of the pipelines' state. -/
abbrev G (d : Dev nD) : sProp 𝕄 :=
  iprop((bigSep Finset.univ fun p : Fin 2 => Pipeline.cellsGhost (pins (F := F)) EP p d) ∗ bigSep Finset.univ fun p : Fin 2 => Pipeline.toksInit (pins (F := F)) EP p d)

omit [FloatOps F] in
/-- Many times nothing. -/
theorem bigSep_nothing {I : Type} (s : Finset I) : (bigSep s fun _ => iprop(emp)) = (iprop(emp) : sProp 𝕄) := bigSep_emp_const s

/-- The pipelines' state, dealt. -/
theorem fund : (BI.own (((Emb.inl : Emb UP (UP × Counters)).trans embR) (initOf (Pipeline.cells (pins (F := F)) pins_inj) (Pipeline.launchToks (pins (F := F)) pins_inj))) : sProp 𝕄)
    ⊢ iprop(|==> ((bigSep Finset.univ fun d : Dev nD => bigSep Finset.univ fun p => Pipeline.cellsGhost (pins (F := F)) EP p d)
      ∗ (bigSep Finset.univ fun d : Dev nD => bigSep Finset.univ fun p => Pipeline.toksInit (pins (F := F)) EP p d))) :=
  Pipeline.fund_ghost (pins (F := F)) EP pins_inj

/-- The launch's state, dealt. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H := (own_pair_emb embR (initOf (Pipeline.cells (pins (F := F)) pins_inj) (Pipeline.launchToks (pins (F := F)) pins_inj)) (1 : Counters)) $$ HR
  icases H with ⟨HP, -⟩
  imod (fund (F := F)) $$ HP with ⟨HC, HT⟩
  imodintro
  isplitl [HH]; · iexact HH
  isplitl [HC HT]
  · rw [bigSep_sep']
    isplitl [HC]; · iexact HC
    iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The words' buffer, row by row -/

/-- The row tile `i` of SparseCore `c` has. -/
abbrev tileRow (ci : Fin 2 × Fin 16) : Finset S32x278528.Idx := colSet (2 * ci.2.val + ci.1.val) 0 278528

/-- Different tiles have different rows. -/
theorem rows_disjoint : ∀ ci ∈ (Finset.univ : Finset (Fin 2 × Fin 16)), ∀ ci' ∈ (Finset.univ : Finset (Fin 2 × Fin 16)), ci ≠ ci' → Disjoint (tileRow ci) (tileRow ci') := by
  rintro ⟨c, i⟩ - ⟨c', i'⟩ - hne
  refine Finset.disjoint_left.mpr fun j h1 h2 => hne ?_
  have e1 := (mem_colSet.mp h1).1
  have e2 := (mem_colSet.mp h2).1
  simp only at e1 e2
  ext <;> simp only <;> omega

/-- The tiles' rows are all. -/
theorem rows_all : (Finset.univ : Finset (Fin 2 × Fin 16)).biUnion tileRow = Finset.univ := by
  ext j
  simp only [Finset.mem_biUnion, Finset.mem_univ, true_and, iff_true]
  have h0 : (j 0).val < 32 := (j 0).isLt
  have h1 : (j 1).val < 278528 := (j 1).isLt
  refine ⟨(⟨(j 0).val % 2, by omega⟩, ⟨(j 0).val / 2, by omega⟩), mem_colSet.mpr ⟨?_, Nat.zero_le _, h1⟩⟩
  show (j 0).val = 2 * ((j 0).val / 2) + (j 0).val % 2
  omega

omit [FloatOps F] in
/-- The words' buffer, split into the tiles' rows. -/
theorem rows_eq (d : Dev nD) (f : S32x278528.Idx → BitVec 32) :
    (oLoc d ↦{fullShare} (f : Buf (Elt F) (oLoc d)) : sProp 𝕄)
      = bigSep Finset.univ fun c : Fin 2 => bigSep Finset.univ fun i : Fin 16 => oPts d (2 * i.val + c.val) 0 278528 f := by
  have h : (oLoc d ↦[(Finset.univ : Finset (Fin 2 × Fin 16)).biUnion tileRow]{fullShare} (f : Buf (Elt F) (oLoc d)) : sProp 𝕄)
      = bigSep Finset.univ fun ci => oLoc d ↦[tileRow ci]{fullShare} (f : Buf (Elt F) (oLoc d)) :=
    pointsTo_biUnion (ℓ := oLoc d) _ tileRow rows_disjoint
  rw [rows_all] at h
  rw [h, bigSep_univ_prod]

/-- What the call takes. -/
theorem st0_eq (d : Dev nD) : (bigSep Finset.univ fun c : Fin ((K (F := F)).nCore 0) => (P m).st 0 d c) = (oLoc d ↦{fullShare} m (oLoc d) : sProp 𝕄) :=
  (rows_eq d (m (oLoc d))).symm
/-- What it gives back. -/
theorem dn0_eq (d : Dev nD) : (bigSep Finset.univ fun c : Fin ((K (F := F)).nCore 0) => (P m).dn 0 d c) = (oLoc d ↦{fullShare} (gBits : Buf (Elt F) (oLoc d)) : sProp 𝕄) :=
  (rows_eq d gBits).symm

/-! ## The program on the TensorCore -/

/-- What the table's operation writes. -/
theorem held_c (d : Dev nD) (W : Valuation τ sig (Elt F)) :
    (StableHlo.held (tcT d) {Proc.devRef (τ := τ) .tc main_c} W : sProp 𝕄) = at_ d main_c (W (Proc.devRef .tc main_c)) := by
  unfold StableHlo.held
  rw [bigSep_singleton]

/-- The table's operation. -/
abbrev tabOp : HloOp τ sig (Elt F) := StableHlo.nullary main_c (fun i => lit0 (S32x128.rowMajor i))

/-- It leaves the table. -/
theorem tabOp_val (W : Valuation τ sig (Elt F)) : (tabOp (F := F)).result W (Proc.devRef .tc main_c) = vBase :=
  (StableHlo.nullary_result main_c _ _ W).trans lit0_eq

/-- The result and the weights at the end. -/
abbrev FIN (d : Dev nD) : sProp 𝕄 := iprop(at_ d main_arg0 (m ((tcT d).loc main_arg0)) ∗ at_ (F := F) d main_v2 (result2 (xOf m d)))

/-- One of two pipelines, -/
theorem two_cells (d : Dev nD) : (bigSep Finset.univ fun p : Fin 2 => Pipeline.cellsGhost (Ix := HIx 1) (Val := Elt F) (Name := ℕ) (U := UU) (Lvl := ℕ) (pins (F := F)) EP p d : sProp 𝕄)
    = iprop(Pipeline.cellsGhost (pins (F := F)) EP 0 d ∗ Pipeline.cellsGhost (pins (F := F)) EP 1 d) :=
  bigSep_univ_eq_bigSepL [0, 1] (by decide) (by decide) _
/-- and its tokens. -/
theorem two_toks (d : Dev nD) : (bigSep Finset.univ fun p : Fin 2 => Pipeline.toksInit (Ix := HIx 1) (Val := Elt F) (Name := ℕ) (U := UU) (Lvl := ℕ) (pins (F := F)) EP p d : sProp 𝕄)
    = iprop(Pipeline.toksInit (pins (F := F)) EP 0 d ∗ Pipeline.toksInit (pins (F := F)) EP 1 d) :=
  bigSep_univ_eq_bigSepL [0, 1] (by decide) (by decide) _

/-- A region's call is the pipelines' call, lifted. -/
theorem call_eq (p : Fin 2) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun _ => .ret ⟨⟩) := rfl

/-- A region's call, under the pipelines' bodies. -/
theorem wp_region₀ [∀ e, Nonempty (Elt F e)] (p : Fin 2) (R : Seg' m p) (d : Dev nD) (Q : PUnit → sProp 𝕄) :
    iprop((iprop(boundary (tcT d) ∗ R.post d) -∗ wp frame (wpE (D (F := F)) 𝒱 (tcT d) none) Set.univ (.ret ⟨⟩) Q)
        ∗ boundary (tcT d) ∗ R.pre d ∗ levAts (K (F := F)).L (K (F := F)).lev
        ∗ Pipeline.cellsGhost (pins (F := F)) EP p d ∗ Pipeline.toksInit (pins (F := F)) EP p d)
      ⊢ wp frame (wpE (D (F := F)) 𝒱 (tcT d) none) Set.univ (.op (.customCall (Pipeline.entry p) ()) fun _ => .ret ⟨⟩) Q := by
  have hv : ∀ u ∈ (none : Option (𝒱).V), (𝒱).lt (.inr ((Pipeline.pin (pcfgs (F := F)) adm p).tripCount + 1)) u := by intro u h; cases h
  have h := fun Q => Pipeline.RegionSeg.wp pcfgs adm (pdats m) none pins_inj EP defs₀ 𝒱₀ (K (F := F)).L (K (F := F)).lev R d none hv (fun _ => .ret PUnit.unit) Q
  exact h Q

/-- A region's call, under the SparseCore program's bodies. -/
theorem wp_region [∀ e, Nonempty (Elt F e)] (p : Fin 2) (R : Seg' m p) (d : Dev nD) (Q : PUnit → sProp 𝕄) :
    iprop((iprop(boundary (tcT d) ∗ R.post d) -∗ Q ⟨⟩) ∗ boundary (tcT d) ∗ R.pre d ∗ levAts (K (F := F)).L (K (F := F)).lev
        ∗ Pipeline.cellsGhost (pins (F := F)) EP p d ∗ Pipeline.toksInit (pins (F := F)) EP p d)
      ⊢ wp frame (wpE ((K (F := F)).defs (D (F := F))) 𝒱 (tcT d) none) Set.univ (Prog.lift (.customCall (SparseCore.inner (Pipeline.entry p)) ())) Q := by
  rw [call_eq]
  have h1 := wp_region₀ m p R d Q
  have h2 := (K (F := F)).wp_liftProg (D (F := F)) 𝒱 (tcT d) Set.univ none (.op (.customCall (Pipeline.entry p) ()) fun _ => .ret PUnit.unit) Q
  refine BI.Entails.trans ?_ (h1.trans h2)
  show (iprop(_ ∗ _) : sProp 𝕄) ⊢ iprop(_ ∗ _)
  iintro ⟨Hk, H⟩
  isplitl [Hk]
  · iintro H; rw [wp_ret]; imodintro; iapply Hk; iexact H
  iexact H

/-- What the regions start from and end with. -/
theorem reg1_pre (d : Dev nD) : (reg1 m).pre d = iprop(unscopedBufs d (V0 m d) ∗ owesLow d) := rfl
theorem reg1_post (d : Dev nD) : (reg1 m).post d = iprop(unscopedBufs d (V1 m d) ∗ owesLow d) := rfl
theorem reg2_pre (d : Dev nD) : (reg2 m).pre d = iprop(unscopedBufs d (V1 m d) ∗ owesLow d) := rfl
theorem reg2_post (d : Dev nD) : (reg2 m).post d = iprop(unscopedBufs d (V2 m d) ∗ owesLow d) := rfl

/-- After the call the TensorCore owes nothing, and the waits it recorded are the launch's. -/
theorem owesLow_eq (d : Dev nD) : (iprop(∃ W, ⌜(K (F := F)).WBelow (SparseCore.T d) W (8 * SparseCore.Cfg.Blocks.fst 1 1 1)⌝
    ∗ owes (SparseCore.T d) ((K (F := F)).Otc d 1) W) : sProp 𝕄) = owesLow d := by
  rw [(K (F := F)).Otc_end d (n := 1) (Nat.le_refl 1)]
  rfl

/-- The program on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  unfold G
  rw [bufs_eq, two_cells, two_toks]
  simp only [main, wp_bind, wp_pure]
  iintro ⟨#Hctx, Hst, ⟨Hb, ⟨Hx, Hc, Ho, Ha, Hl, Hr⟩, Hts, -⟩, ⟨Hg0, Hg1⟩, ⟨Ht0, Ht1⟩⟩
  ihave #Hlev := ((K (F := F)).ctx_levAts κ) $$ Hctx
  iapply (StableHlo.wp_hlo_within 𝒱 (tcT d) none Set.univ (op := tabOp) (S := {Proc.devRef (τ := τ) .tc main_c}) (V := fun b => m (d, b)) (Finset.Subset.refl _) rfl) $$ [Hb Hc]
  · isplitl [Hb]; · iexact Hb
    rw [held_c]; iexact Hc
  rw [held_c, tabOp_val]
  iintro ⟨Hb, Hc⟩
  rw [wp_ret]; imodintro
  iapply ((K (F := F)).wp_run (D (F := F)) 𝒱 (EH := EH) (P := P m) κ d 0) $$ [Hst Hx Hc Ho Ha Hl Hr Hb Hts Hg0 Hg1 Ht0 Ht1]
  isplitr; · iexact Hctx
  isplitl [Hst]; · iexact Hst
  isplitl [Ho]
  · rw [st0_eq]; iexact Ho
  rw [dn0_eq, show ((0 : Fin 1).val + 1 : ℕ) = 1 from rfl]
  iintro ⟨Hst, Ho⟩
  unfold SparseCore.Cfg.tcSt
  icases Hst with ⟨HO, Hst⟩
  ihave HO := (Entails.of_eq (owesLow_eq d)) $$ HO
  iapply (wp_region m 0 (reg1 m) d _)
  rw [reg1_pre, reg1_post]
  isplitl [Hst Hts Hg1 Ht1]
  rotate_left
  · isplitl [Hb]; · iexact Hb
    isplitl [Hx Hc Ho Ha Hl Hr HO]
    · isplitl [Hx Hc Ho Ha Hl Hr]
      · iapply (Entails.of_eq (conts_eq m d vBase gBits (m ((tcT d).loc main_v1_0)) (m ((tcT d).loc main_v1_1)) (m ((tcT d).loc main_v2))).symm)
        isplitl [Hx]; · iexact Hx
        isplitl [Hc]; · iexact Hc
        isplitl [Ho]; · iexact Ho
        isplitl [Ha]; · iexact Ha
        isplitl [Hl]; · iexact Hl
        iexact Hr
      iexact HO
    isplitr; · iexact Hlev
    isplitl [Hg0]; · iexact Hg0
    iexact Ht0
  iintro ⟨Hb, HB, HO⟩
  iapply (wp_region m 1 (reg2 m) d _)
  rw [reg2_pre, reg2_post]
  isplitl [Hst Hts]
  rotate_left
  · isplitl [Hb]; · iexact Hb
    isplitl [HB HO]
    · isplitl [HB]; · iexact HB
      iexact HO
    isplitr; · iexact Hlev
    isplitl [Hg1]; · iexact Hg1
    iexact Ht1
  iintro ⟨Hb, HB, HO⟩
  imodintro
  ihave HB' := (Entails.of_eq (conts_eq m d vBase gBits (result1 (xOf m d)).1 (result1 (xOf m d)).2 (result2 (xOf m d)))) $$ HB
  icases HB' with ⟨Hx, -, -, -, -, Hr⟩
  isplitl [HO Hst]
  · isplitl [HO]
    · iapply (Entails.of_eq (owesLow_eq d).symm); iexact HO
    iexact Hst
  isplitl [Hx Hr]
  · isplitl [Hx]; · iexact Hx
    iexact Hr
  isplitl [Hb]; · iexact Hb
  iexact Hts

/-- A final memory's weights and result. -/
def fq (d : Dev nD) (s' : Phys nD τ sig (Elt F)) : Prop :=
  s'.mem.mem ((tcT d).loc main_arg0) = m ((tcT d).loc main_arg0) ∧ s'.mem.mem ((tcT d).loc main_v2) = (result2 (xOf m d) : Buf (Elt F) ((tcT d).loc main_v2))

set_option maxRecDepth 16384 in
/-- What the end holds, a final memory has. -/
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := (tcT d).loc main_arg0) (I := Finset.univ) (q := fullShare)
    (f := m ((tcT d).loc main_arg0)))) $$ [HSI Hx]
  · isplitl [HSI] <;> iassumption
  icases H with ⟨%h1, HSI, -⟩
  ihave H := (SI_pointsTo_agree (st := s') (ℓ := (tcT d).loc main_v2) (I := Finset.univ) (q := fullShare)
    (f := (result2 (xOf m d) : Buf (Elt F) ((tcT d).loc main_v2)))) $$ [HSI Hr]
  · isplitl [HSI] <;> iassumption
  icases H with %h2
  ipureintro
  exact ⟨funext fun i => h1 i (Finset.mem_univ i), funext fun i => h2 i (Finset.mem_univ i)⟩

/-- The end: on every device the weights unchanged and the result as computed; every semaphore zero. -/
def QC : PUnit × MemSt nD τ sig (Elt F) → Prop := fun r =>
  (∀ c : Dev nD, r.2.mem ((tcT c).loc main_arg0) = m ((tcT c).loc main_arg0)
    ∧ r.2.mem ((tcT c).loc main_v2) = (result2 (xOf m c) : Buf (Elt F) ((tcT c).loc main_v2))) ∧ r.2.sem = fun _ => 0

/-- The program runs to that end. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end
-- ==== Proof.Frames.lean ====
/- The kernel's frames: each program runs to its end with its arguments unchanged and its semaphores zero. -/
module

public import proofs.«01_k».proof.Proof.Run

@[expose] public section

noncomputable section

namespace Cert.Proof

open Idealize.ShloMosaic Idealize.SL.Sem

section Same

variable {F : FTy → Type} [FloatOps F] [i1 : Cert.Kernel.Facts] [i2 : Cert.KernelIdeal.Facts]

/-- The two programs' bodies are the same text. -/
theorem defs₀_eq : Cert.KernelIdeal.defs₀ (F := F) = Cert.Kernel.defs₀ (F := F) := by
  funext p ℓ a
  match p, ℓ, a with
  | .scVector _ _, 0, _ => rfl
  | .tc, 1, (_, _) => rfl
  | .tc, 2, (_, _) => rfl
  | .scVector _ _, 1, _ => rfl
  | .scVector _ _, 2, _ => rfl
  | .tc, 0, _ => rfl
  | .scScalar _, 0, _ => rfl
  | .scScalar _, 1, _ => rfl
  | .scScalar _, 2, _ => rfl

/-- So are their calls'. -/
theorem defs_eq : Cert.KernelIdeal.defs (F := F) = Cert.Kernel.defs (F := F) :=
  congrArg (fun D => Cert.KernelIdeal.sc.defs (Pipeline.defs Cert.KernelIdeal.pcfgs D)) defs₀_eq

/-- And so are their threads. -/
theorem threads_eq : Cert.KernelIdeal.threads (F := F) = Cert.Kernel.threads (F := F) := rfl

end Same

/-- The idealized kernel's frame. -/
theorem frame_ideal [Cert.KernelIdeal.Facts] : Cert.quiescent_KernelIdeal := fun m ρ _ =>
  (θ_run Cert.KernelIdeal.defs _ _).mono (fun _ h => ⟨fun c => (h.1 c).1, h.2⟩) (run_main (F := Ideal) m ρ)

/-- The kernel's frame: its text is the idealized kernel's, at bit patterns. -/
theorem frame_kernel [Cert.Kernel.Facts] : Cert.quiescent_Kernel := fun m ρ _ => by
  rw [← defs_eq, ← threads_eq]
  exact (θ_run Cert.KernelIdeal.defs _ _).mono (fun _ h => ⟨fun c => (h.1 c).1, h.2⟩) (run_main (F := Bits) m ρ)

end Cert.Proof

end
-- ==== Proof.Order.lean ====
/- The first place where a function is largest, how two parts' first places merge, and folds that find a largest value
   and a least word. -/
module

public import proofs.«01_k».proof.Proof.Setup
public import Idealize.ShloMosaic.PureOps.Reduce
public import Idealize.ShloMosaic.PureOps.Ideal.Laws

@[expose] public section

noncomputable section

namespace Cert.Proof

open Idealize.ShloMosaic

variable {α : Type*} [LinearOrder α]

/-- `c` is the first place of `S` where `f` is largest on `S`. -/
def First (f : ℕ → α) (S : ℕ → Prop) (c : ℕ) : Prop := S c ∧ ∀ d, S d → f d < f c ∨ (f d = f c ∧ c ≤ d)

/-- There is one such place. -/
theorem First.unique {f : ℕ → α} {S : ℕ → Prop} {c d : ℕ} (hc : First f S c) (hd : First f S d) : c = d := by
  rcases hc.2 d hd.1 with h | h <;> rcases hd.2 c hc.1 with h' | h'
  · exact absurd h (lt_asymm h')
  · exact absurd h'.1 (ne_of_gt h)
  · exact absurd h.1 (ne_of_gt h')
  · omega

/-- Only the members of the set count. -/
theorem First.congr {f : ℕ → α} {S T : ℕ → Prop} {c : ℕ} (hc : First f S c) (h : ∀ d, S d ↔ T d) : First f T c :=
  ⟨(h c).1 hc.1, fun d hd => hc.2 d ((h d).2 hd)⟩

/-- Of two parts' first places the one with the larger value, the smaller one on equality, is the first of both parts. -/
theorem First.merge {f : ℕ → α} {S T : ℕ → Prop} {c d : ℕ} (hc : First f S c) (hd : First f T d) :
    First f (fun n => S n ∨ T n) (if f c < f d ∨ (f d = f c ∧ d < c) then d else c) := by
  split
  · rename_i h
    refine ⟨.inr hd.1, fun n hn => ?_⟩
    rcases hn with hn | hn
    · rcases hc.2 n hn with h1 | h1 <;> rcases h with h2 | h2
      · exact .inl (h1.trans h2)
      · exact .inl (h2.1 ▸ h1)
      · exact .inl (h1.1 ▸ h2)
      · exact .inr ⟨h1.1.trans h2.1.symm, by omega⟩
    · exact hd.2 n hn
  · rename_i h
    rw [not_or, not_lt, not_and, not_lt] at h
    refine ⟨.inl hc.1, fun n hn => ?_⟩
    rcases hn with hn | hn
    · exact hc.2 n hn
    · rcases lt_or_eq_of_le h.1 with h2 | h2
      · rcases hd.2 n hn with h1 | h1
        · exact .inl (h1.trans h2)
        · exact .inl (h1.1 ▸ h2)
      · rcases hd.2 n hn with h1 | h1
        · exact .inl (h2 ▸ h1)
        · exact .inr ⟨h1.1.trans h2, (h.2 h2).trans h1.2⟩

/-- Where the second part lies after the first it needs a strictly larger value. -/
theorem First.merge_after {f : ℕ → α} {S T : ℕ → Prop} {c d : ℕ} (hc : First f S c) (hd : First f T d) (hST : ∀ m n, S m → T n → m < n) :
    First f (fun n => S n ∨ T n) (if f c < f d then d else c) := by
  have e : (if f c < f d ∨ (f d = f c ∧ d < c) then d else c) = if f c < f d then d else c :=
    if_congr ⟨fun h => h.elim id fun h => absurd h.2 (by have := hST _ _ hc.1 hd.1; omega), .inl⟩ rfl rfl
  exact e ▸ hc.merge hd

/-- Among parts' first places the least of those with the largest value is the first of all. -/
theorem First.of_parts {ι : Type*} {f : ℕ → α} {S : ι → ℕ → Prop} {c : ι → ℕ} (hc : ∀ i, First f (S i) (c i)) (i : ι)
    (hmax : ∀ k, f (c k) ≤ f (c i)) (hmin : ∀ k, f (c k) = f (c i) → c i ≤ c k) :
    First f (fun n => ∃ i, S i n) (c i) := by
  refine ⟨⟨i, (hc i).1⟩, fun n ⟨k, hn⟩ => ?_⟩
  rcases (hc k).2 n hn with h | h
  · exact .inl (h.trans_le (hmax k))
  · rcases lt_or_eq_of_le (hmax k) with h2 | h2
    · exact .inl (h.1 ▸ h2)
    · exact .inr ⟨h.1.trans h2, (hmin k h2).trans h.2⟩

/-! ## Folds -/

/-- A fold of `max` from the least value is an attained upper bound. -/
theorem fold_max_eq {ι : Type*} {β : Type*} [LinearOrder β] [OrderBot β] [Fintype ι] (g : ι → β) (i : ι) (h : ∀ k, g k ≤ g i) :
    (Finset.univ : Finset ι).fold max ⊥ g = g i :=
  le_antisymm ((Finset.fold_max_le _).2 ⟨bot_le, fun k _ => h k⟩) ((Finset.le_fold_max _).2 (.inr ⟨i, Finset.mem_univ i, le_rfl⟩))

/-- The signed value of the smaller of two words. -/
theorem minsi_toInt (x y : BitVec 32) : (IntOp.minsi x y).toInt = min x.toInt y.toInt := by
  unfold IntOp.minsi
  by_cases h : x.slt y = true
  · rw [if_pos h, min_eq_left (BitVec.slt_iff_toInt_lt.1 h).le]
  · rw [if_neg h, min_eq_right (not_lt.1 fun h' => h (BitVec.slt_iff_toInt_lt.2 h'))]

/-- The signed value of a fold of the smaller word. -/
theorem fold_minsi_toInt {ι : Type*} (s : Finset ι) (g : ι → BitVec 32) (b : BitVec 32) :
    (s.fold IntOp.minsi b g).toInt = s.fold min b.toInt fun k => (g k).toInt := by
  classical
  induction s using Finset.induction_on with
  | empty => rfl
  | insert a s ha ih => rw [Finset.fold_insert ha, Finset.fold_insert ha, minsi_toInt, ih]

/-- A fold of the smaller word from the largest is an attained lower bound. -/
theorem fold_minsi_eq {ι : Type*} [Fintype ι] (g : ι → BitVec 32) (i : ι) (h : ∀ k, (g i).toInt ≤ (g k).toInt) :
    (Finset.univ : Finset ι).fold IntOp.minsi 2147483647#32 g = g i := by
  refine BitVec.eq_of_toInt_eq ?_
  rw [fold_minsi_toInt]
  refine le_antisymm ((Finset.fold_min_le _).2 (.inr ⟨i, Finset.mem_univ i, le_rfl⟩)) ((Finset.le_fold_min _).2 ⟨?_, fun k _ => h k⟩)
  have := BitVec.toInt_lt (x := g i)
  rw [show (2147483647#32).toInt = 2147483647 from rfl]
  omega

/-- The signed value of a small word. -/
theorem toInt_ofNat_small {n : ℕ} (h : n < 2147483648) : (BitVec.ofNat 32 n).toInt = n := by
  rw [BitVec.toInt_eq_toNat_cond, BitVec.toNat_ofNat, Nat.mod_eq_of_lt (by omega)]
  split <;> omega

/-- The signed comparison of small words. -/
theorem slt_small {m n : ℕ} (hm : m < 2147483648) (hn : n < 2147483648) :
    (BitVec.ofNat 32 m).slt (BitVec.ofNat 32 n) = decide (m < n) := by
  rw [Bool.eq_iff_iff, BitVec.slt_iff_toInt_lt, toInt_ofNat_small hm, toInt_ofNat_small hn, decide_eq_true_iff]
  omega

end Cert.Proof

end
-- ==== Proof.Lanes.lean ====
/- What the lanes of the two TensorCore kernels hold at the extended reals: the first best column among those seen. -/
module

public import proofs.«01_k».proof.Proof.Values
public import proofs.«01_k».proof.Proof.Order
public import Idealize.ShloMosaic.Lib.Pipeline.Value

@[expose] public section

noncomputable section

namespace Cert.Proof

open Cert.KernelIdeal Cert.KernelIdeal.Gen
open Idealize.ShloMosaic

/-! ## Scores -/

/-- The score of a random word and a weight, as the kernels compute it. -/
def kscore (w : BitVec 32) (x : Ideal .f32) : Ideal .f32 :=
  FloatOps.addf (FloatOps.subf (Scalar.ofBits .f32 0x00000000#32)
    (FloatOps.log (FloatOps.subf (Scalar.ofBits .f32 0x00000000#32)
      (FloatOps.log (FloatOps.addf (FloatOps.subf (FloatOps.ofBits .f32 (IntOp.ori (IntOp.shrui .vector w 9#32) 1065353216#32))
        (Scalar.ofBits .f32 0x3F800000#32)) (Scalar.ofBits .f32 0x00800000#32))))))
    (FloatOps.log x)

/-- A vector of scores from words works entry by entry. -/
theorem vscoreOf_apply (b : IVec S32x128 32) (xv : FVec Ideal S32x128 .f32) (j : S32x128.Idx) :
    vscoreOf b xv j = kscore (b j) (xv j) := rfl

/-- A vector of scores works entry by entry. -/
theorem vscore_apply (c : IVec S32x128 32) (xv : FVec Ideal S32x128 .f32) (j : S32x128.Idx) :
    vscore c xv j = kscore (bits (c j)) (xv j) := by
  rw [← vbits_apply]
  unfold vscore
  exact vscoreOf_apply _ _ _

/-- The counter of row `r` and column `c`. -/
def cw (r c : ℕ) : BitVec 32 := BitVec.ofNat 32 (r * 1000000 + c + 42)

variable (X : S32x1000000.Idx → Ideal .f32)

/-- The score of row `r` and column `c`. -/
def sc (r c : ℕ) : EReal := kscore (bits (cw r c)) (xAt X r c)

/-- A chunk's counters. -/
theorem chC_apply (n : ℕ) (j : S32x128.Idx) : chC n j = cw (j 0).val (n * 128 + (j 1).val) := rfl

/-- A chunk's scores. -/
theorem chS_apply (n : ℕ) (j : S32x128.Idx) : chS X n j = sc X (j 0).val (n * 128 + (j 1).val) := vscore_apply _ _ _

/-- Counters of a row are in the order of their columns. -/
theorem cw_slt {r c d : ℕ} (hr : r < 32) (hc : c < 1000000) (hd : d < 1000000) : (cw r c).slt (cw r d) = decide (c < d) := by
  unfold cw
  rw [slt_small (by omega) (by omega)]
  exact decide_eq_decide.2 (by omega)

/-! ## One step of a lane -/

/-- A choice on a strict comparison. -/
theorem sel_gt {α : Type} (x y : EReal) (a b : α) :
    Scalar.select (FloatOps.cmpf (F := Ideal) (φ := .f32) .ogt x y) a b = if y < x then a else b := by
  show (if BitVec.ofBool (decide (y < x)) = 1 then a else b) = _
  by_cases h : y < x
  · rw [decide_eq_true h, if_pos h]; rfl
  · rw [decide_eq_false h, if_neg h]; rfl

/-- A choice on a comparison with ties going to the smaller word. -/
theorem sel_lex {α : Type} (x y : EReal) (v w : BitVec 32) (a b : α) :
    Scalar.select (IntOp.ori (FloatOps.cmpf (F := Ideal) (φ := .f32) .ogt x y)
        (IntOp.andi (FloatOps.cmpf (F := Ideal) (φ := .f32) .oeq x y) (IntOp.cmpi .slt v w))) a b
      = if y < x ∨ (x = y ∧ v.slt w = true) then a else b := by
  show (if BitVec.ofBool (decide (y < x)) ||| (BitVec.ofBool (decide (x = y)) &&& BitVec.ofBool (v.slt w)) = 1 then a else b) = _
  have key : ∀ p q t : Bool, (BitVec.ofBool p ||| (BitVec.ofBool q &&& BitVec.ofBool t) = 1) ↔ (p = true ∨ (q = true ∧ t = true)) := by decide
  exact if_congr ((key _ _ _).trans (or_congr decide_eq_true_iff (and_congr decide_eq_true_iff Iff.rfl))) rfl rfl

/-- The columns of a lane whose chunk satisfies `P`. -/
def part (l : ℕ) (P : ℕ → Prop) : ℕ → Prop := fun c => c < 1000000 ∧ c % 128 = l ∧ P (c / 128)

/-- The lane `j` of a state holds the first best column among those of the chunks satisfying `P`. -/
def Lane (j : S32x128.Idx) (P : ℕ → Prop) (s : LState Ideal) : Prop :=
  ∃ c, First (sc X (j 0).val) (part (j 1).val P) c ∧ s.1 j = sc X (j 0).val c ∧ s.2 j = cw (j 0).val c

variable {X} {j : S32x128.Idx} {P Q : ℕ → Prop} {s t : LState Ideal}

/-- Only the chunks with a column of the lane count. -/
theorem Lane.congr (hs : Lane X j P s) (h : ∀ n, n * 128 + (j 1).val < 1000000 → (P n ↔ Q n)) : Lane X j Q s := by
  obtain ⟨c, hc, h1, h2⟩ := hs
  refine ⟨c, hc.congr fun d => ?_, h1, h2⟩
  unfold part
  refine and_congr_right fun hd => and_congr_right fun hl => h _ ?_
  omega

/-- The columns of one part or another. -/
theorem part_or (l : ℕ) (P Q : ℕ → Prop) (c : ℕ) : (part l P c ∨ part l Q c) ↔ part l (fun n => P n ∨ Q n) c := by
  unfold part; tauto

/-- A chunk's columns, as they come. -/
theorem lane_chunk (n : ℕ) (hn : n * 128 + (j 1).val < 1000000) (h1 : s.1 j = sc X (j 0).val (n * 128 + (j 1).val))
    (h2 : s.2 j = cw (j 0).val (n * 128 + (j 1).val)) : Lane X j (· = n) s := by
  have hj : (j 1).val < 128 := (j 1).isLt
  refine ⟨n * 128 + (j 1).val, ⟨⟨hn, by omega, by show _ / 128 = n; omega⟩, fun d hd => .inr ?_⟩, h1, h2⟩
  obtain ⟨_, hd1, hd2⟩ := hd
  have hd2 : d / 128 = n := hd2
  have : d = n * 128 + (j 1).val := by omega
  subst this
  exact ⟨rfl, le_rfl⟩

/-- A later part's state replaces an earlier one's where its score is larger. -/
theorem Lane.gt (ht : Lane X j P t) (hs : Lane X j Q s) (h : ∀ m n, P m → Q n → m < n) :
    Lane X j (fun n => P n ∨ Q n) (stepGt s t) := by
  obtain ⟨c, hc, hc1, hc2⟩ := ht
  obtain ⟨d, hd, hd1, hd2⟩ := hs
  refine ⟨if sc X (j 0).val c < sc X (j 0).val d then d else c, (hc.merge_after hd ?_).congr (part_or _ _ _), ?_, ?_⟩
  · intro m n hm hn
    have := h _ _ hm.2.2 hn.2.2
    omega
  · refine (sel_gt (s.1 j) (t.1 j) (s.1 j) (t.1 j)).trans ?_
    rw [hc1, hd1]
    split <;> rfl
  · refine (sel_gt (s.1 j) (t.1 j) (s.2 j) (t.2 j)).trans ?_
    rw [hc1, hd1, hc2, hd2]
    split <;> rfl

/-- A part's state replaces another's where its score is larger, or equal at a smaller column. -/
theorem Lane.lex (ht : Lane X j P t) (hs : Lane X j Q s) : Lane X j (fun n => P n ∨ Q n) (stepLex s t) := by
  obtain ⟨c, hc, hc1, hc2⟩ := ht
  obtain ⟨d, hd, hd1, hd2⟩ := hs
  have hw : (sc X (j 0).val c < sc X (j 0).val d ∨ (sc X (j 0).val d = sc X (j 0).val c ∧ (cw (j 0).val d).slt (cw (j 0).val c) = true))
      ↔ (sc X (j 0).val c < sc X (j 0).val d ∨ (sc X (j 0).val d = sc X (j 0).val c ∧ d < c)) := by
    rw [cw_slt (j 0).isLt hd.1.1 hc.1.1, decide_eq_true_iff]
  refine ⟨if sc X (j 0).val c < sc X (j 0).val d ∨ (sc X (j 0).val d = sc X (j 0).val c ∧ d < c) then d else c,
    (hc.merge hd).congr (part_or _ _ _), ?_, ?_⟩
  · refine (sel_lex (s.1 j) (t.1 j) (s.2 j) (t.2 j) (s.1 j) (t.1 j)).trans ?_
    rw [hc1, hd1, hc2, hd2]
    exact (if_congr hw rfl rfl).trans (apply_ite (sc X (j 0).val) _ d c).symm
  · refine (sel_lex (s.1 j) (t.1 j) (s.2 j) (t.2 j) (s.2 j) (t.2 j)).trans ?_
    rw [hc1, hd1, hc2, hd2]
    exact (if_congr hw rfl rfl).trans (apply_ite (cw (j 0).val) _ d c).symm

/-! ## The chunks in turn -/

/-- What each chunk keeps, the chunks in turn keep. -/
theorem accN_induct {F : FTy → Type} (f : ℕ → LState F → LState F) (R : ℕ → LState F → Prop) (n : ℕ) : ∀ (k : ℕ) (s : LState F),
    R k s → (∀ i s, k ≤ i → i < k + n → R i s → R (i + 1) (f i s)) → R (k + n) (accN f n k s) := by
  induction n with
  | zero => intro k s h _; exact h
  | succ n ih =>
    intro k s h hf
    have := ih (k + 1) (f k s) (hf k s le_rfl (by omega) h) fun i s h1 h2 h3 => hf i s (by omega) (by omega) h3
    rwa [show k + 1 + n = k + (n + 1) by omega] at this

/-- Thirty-two chunks. -/
theorem lane_half32 (n : ℕ) (hn : n + 32 ≤ 7812) : Lane X j (fun i => n ≤ i ∧ i < n + 32) (half32 X n) := by
  have hj : (j 1).val < 128 := (j 1).isLt
  have h := accN_induct (F := Ideal) (fun k s => stepGt (chunk X k) s) (fun i s => Lane X j (fun m => n ≤ m ∧ m < i) s) 31 (n + 1) (chunk X n)
    ((lane_chunk n (by omega) (chS_apply X n j) (chC_apply n j)).congr fun m _ => by omega)
    fun i s h1 h2 hs => (hs.gt (lane_chunk i (by omega) (chS_apply X i j) (chC_apply i j)) fun a b ha hb => by omega).congr fun m _ => by omega
  exact h.congr fun m _ => by omega

/-- A point of the first kernel. -/
theorem lane_point1 (p : ℕ) (hp : p < 88) : Lane X j (fun i => 64 * p ≤ i ∧ i < 64 * (p + 1)) (point1 X p) :=
  ((lane_half32 (64 * p) (by omega)).gt (lane_half32 (64 * p + 32) (by omega)) fun a b ha hb => by omega).congr fun m _ => by omega

/-- The points of the first kernel up to `p`. -/
theorem lane_state1 (p : ℕ) (hp : p < 88) : Lane X j (fun i => i < 64 * (p + 1)) (state1 X p) := by
  induction p with
  | zero => exact (lane_point1 0 hp).congr fun m _ => by omega
  | succ p ih => exact ((ih (by omega)).gt (lane_point1 (p + 1) hp) fun a b ha hb => by omega).congr fun m _ => by omega

/-- Words of one row differ by their lanes. -/
theorem sub_words (a l : ℕ) : IntOp.subi (BitVec.ofNat 32 (a + l + 42)) (BitVec.ofNat 32 (a + 0 + 42)) = BitVec.ofNat 32 l := by
  show BitVec.ofNat 32 (a + l + 42) - BitVec.ofNat 32 (a + 0 + 42) = _
  rw [show a + l + 42 = l + (a + 0 + 42) by ring, BitVec.ofNat_add l, BitVec.add_sub_cancel]

/-- The table's entry. -/
theorem vBase_apply (j : S32x128.Idx) : vBase j = BitVec.ofNat 32 ((j 0).val * 1000000 + (j 1).val + 42) := rfl

/-- The index at row `r` and lane 0. -/
abbrev lane0 (r : Fin 32) : S32x128.Idx := fun a => ⟨(![r.val, 0] : Fin 2 → ℕ) a, by fin_cases a; exacts [r.isLt, Nat.zero_lt_succ 127]⟩

/-- The row's index among rows. -/
abbrev row1 (r : Fin 32) : S32x1.Idx := fun a => ⟨(![r.val, 0] : Fin 2 → ℕ) a, by fin_cases a; exacts [r.isLt, Nat.zero_lt_one]⟩

/-- The lane's number. -/
theorem vLane_apply (j : S32x128.Idx) : vLane j = BitVec.ofNat 32 (j 1).val := by
  unfold vLane
  show IntOp.subi (vBase j) _ = _
  rw [broadcastTo_apply _ _ j (row1 (j 0)) (fun a => by fin_cases a <;> rfl),
    extractStridedSlice_apply _ _ _ _ (lane0 (j 0)) (fun a => by fin_cases a <;> simp), vBase_apply, vBase_apply,
    show (lane0 (j 0) 0).val = (j 0).val from rfl, show (lane0 (j 0) 1).val = 0 from rfl]
  exact sub_words _ _

/-- The signed value of the bound on a chunk's lanes. -/
theorem toInt_bound (k : ℕ) (hk : k < 8) : (BitVec.ofNat 32 (576 + 4294967296 - k * 128)).toInt = 576 - (k : ℤ) * 128 := by
  interval_cases k <;> rfl

/-- The tail's scores: the least where the column is not below a million. -/
theorem tailS_apply (k : ℕ) (hk : k < 8) (j : S32x128.Idx) :
    tailS k (chX X (7808 + k)) j = if (7808 + k) * 128 + (j 1).val < 1000000 then sc X (j 0).val ((7808 + k) * 128 + (j 1).val) else (⊥ : EReal) := by
  have hj : (j 1).val < 128 := (j 1).isLt
  show (if BitVec.ofBool ((vLane j).slt (BitVec.ofNat 32 (576 + 4294967296 - k * 128))) = 1 then vscore (chC (7808 + k)) (chX X (7808 + k)) j
    else (Scalar.ofBits .f32 0xFF800000#32 : Ideal .f32)) = _
  have hb : (Scalar.ofBits .f32 0xFF800000#32 : Ideal .f32) = (⊥ : EReal) := by
    show Ideal.ofBits .f32 0xFF800000#32 = _
    simp [Ideal.ofBits, Ideal.ieee]
  rw [hb, vLane_apply]
  refine if_congr ?_ (chS_apply X (7808 + k) j) rfl
  rw [show ∀ b : Bool, BitVec.ofBool b = 1 ↔ b = true by decide, BitVec.slt_iff_toInt_lt, toInt_ofNat_small (by omega), toInt_bound k hk]
  omega

/-- A chunk of the tail. -/
theorem lane_tail (k : ℕ) (hk : k < 8) (ht : Lane X j P t) (h : ∀ m, P m → m < 7808 + k) :
    Lane X j (fun n => P n ∨ n = 7808 + k) (stepGt (tailS k (chX X (7808 + k)), chC (7808 + k)) t) := by
  by_cases hc : (7808 + k) * 128 + (j 1).val < 1000000
  · refine ht.gt (lane_chunk (7808 + k) hc ?_ (chC_apply _ j)) fun a b ha hb => hb ▸ h a ha
    exact (tailS_apply k hk j).trans (if_pos hc)
  · obtain ⟨c, hc', h1, h2⟩ := ht.congr (Q := fun n => P n ∨ n = 7808 + k) fun n hn => ⟨.inl, fun h => h.elim id fun e => absurd (e ▸ hn) hc⟩
    have hb : (tailS k (chX X (7808 + k)) j : EReal) = ⊥ := (tailS_apply k hk j).trans (if_neg hc)
    have hn : ¬ (t.1 j : EReal) < (tailS k (chX X (7808 + k)) j : EReal) := by
      rw [hb]; exact not_lt_bot
    exact ⟨c, hc', ((sel_gt _ (t.1 j) _ (t.1 j)).trans (if_neg hn)).trans h1, ((sel_gt _ (t.1 j) _ (t.2 j)).trans (if_neg hn)).trans h2⟩

/-- What the first kernel writes. -/
theorem lane_result1 : Lane X j (fun n => n < 5632 ∨ 7808 ≤ n ∧ n < 7816) (result1 X) := by
  have h := accN_induct (F := Ideal) (fun k s => stepGt (tailS k (chX X (7808 + k)), chC (7808 + k)) s)
    (fun i s => Lane X j (fun n => n < 5632 ∨ 7808 ≤ n ∧ n < 7808 + i) s) 8 0 (state1 X 87)
    ((lane_state1 87 (by omega)).congr fun m _ => by omega)
    fun i s _ h2 hs => (lane_tail i (by omega) hs fun m hm => by omega).congr fun m _ => by omega
  exact h.congr fun m _ => by omega

/-- The second kernel's state before point `p`. -/
theorem lane_state2 (p : ℕ) (hp : p ≤ 34) : Lane X j (fun n => n < 5632 + 64 * p ∨ 7808 ≤ n ∧ n < 7816) (state2 X p) := by
  have hj : (j 1).val < 128 := (j 1).isLt
  induction p with
  | zero => exact lane_result1.congr fun m _ => by omega
  | succ p ih =>
    have h := accN_induct (F := Ideal) (fun k s => stepLex (chunk X k) s) (fun i s => Lane X j (fun n => n < i ∨ 7808 ≤ n ∧ n < 7816) s) 64
      (64 * (88 + p)) (state2 X p) ((ih (by omega)).congr fun m _ => by omega)
      fun i s h1 h2 hs => (hs.lex (lane_chunk i (by omega) (chS_apply X i j) (chC_apply i j))).congr fun m _ => by omega
    exact h.congr fun m _ => by omega

/-- At the end each lane holds its first best column. -/
theorem lane_end (j : S32x128.Idx) : Lane X j (fun _ => True) (state2 X 34) :=
  (lane_state2 34 le_rfl).congr fun m h => by
    have hj : (j 1).val < 128 := (j 1).isLt
    refine ⟨fun _ => trivial, fun _ => ?_⟩
    omega

end Cert.Proof

end
-- ==== Proof.Ref.lean ====
/- The reference: its run at the extended reals, its scores entry by entry. -/
module

public import proofs.«01_k».proof.Proof.Lanes
public import proofs.«01_k».proof.Proof.Gen.ReferenceIdeal.Run
public import proofs.«01_k».proof.Proof.Gen.ReferenceIdeal.Read

@[expose] public section

noncomputable section

namespace Cert.Proof

open Idealize.ShloMosaic Idealize.SL.Sem
open Cert.ReferenceIdeal.Read

/-- The reference runs to its end with its argument unchanged, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The reference's random words -/

variable {F : FTy → Type} [FloatOps F] (i : Cert.ReferenceIdeal.S32x1000000.Idx) (k : BitVec 32 → BitVec 32 → BitVec 32)

/-- Rounds 1 to 4. -/
theorem ref_rounds1 : k (val_main_v32 (F := F) i) (val_main_v38 (F := F) i)
    = srounds 13#32 19#32 15#32 17#32 26#32 6#32 6#32 26#32 (val_main_v8 (F := F) i) (val_main_v10 (F := F) i) k := rfl

/-- Rounds 5 to 8. -/
theorem ref_rounds2 : k (val_main_v66 (F := F) i) (val_main_v72 (F := F) i)
    = srounds 17#32 15#32 29#32 3#32 16#32 16#32 24#32 8#32 (val_main_v40 (F := F) i) (val_main_v44 (F := F) i) k := rfl

/-- Rounds 9 to 12. -/
theorem ref_rounds3 : k (val_main_v100 (F := F) i) (val_main_v106 (F := F) i)
    = srounds 13#32 19#32 15#32 17#32 26#32 6#32 6#32 26#32 (val_main_v74 (F := F) i) (val_main_v78 (F := F) i) k := rfl

/-- Rounds 13 to 16. -/
theorem ref_rounds4 : k (val_main_v134 (F := F) i) (val_main_v140 (F := F) i)
    = srounds 17#32 15#32 29#32 3#32 16#32 16#32 24#32 8#32 (val_main_v108 (F := F) i) (val_main_v112 (F := F) i) k := rfl

/-- Rounds 17 to 20. -/
theorem ref_rounds5 : k (val_main_v168 (F := F) i) (val_main_v174 (F := F) i)
    = srounds 13#32 19#32 15#32 17#32 26#32 6#32 6#32 26#32 (val_main_v142 (F := F) i) (val_main_v146 (F := F) i) k := rfl

/-! The generator's word in the same five groups. -/

/-- After round 20. -/
def after20 (x y : BitVec 32) : BitVec 32 := skey 466689008#32 5#32 x y fun x y => IntOp.xori x y

/-- After round 16. -/
def after16 (x y : BitVec 32) : BitVec 32 :=
  skey 42#32 466689012#32 x y fun x y => srounds 13#32 19#32 15#32 17#32 26#32 6#32 6#32 26#32 x y after20

/-- After round 12. -/
def after12 (x y : BitVec 32) : BitVec 32 := srounds 17#32 15#32 29#32 3#32 16#32 16#32 24#32 8#32 x (IntOp.addi y 45#32) after16

/-- After round 8. -/
def after8 (x y : BitVec 32) : BitVec 32 :=
  skey 466689008#32 2#32 x y fun x y => srounds 13#32 19#32 15#32 17#32 26#32 6#32 6#32 26#32 x y after12

/-- After round 4. -/
def after4 (x y : BitVec 32) : BitVec 32 :=
  skey 42#32 466689009#32 x y fun x y => srounds 17#32 15#32 29#32 3#32 16#32 16#32 24#32 8#32 x y after8

/-- The first four rounds where the first word is zero. -/
theorem first_rounds (z x : BitVec 32) (h : IntOp.addi z x = x) : srounds 13#32 19#32 15#32 17#32 26#32 6#32 6#32 26#32 z x k
    = (have y1 := smix 13#32 19#32 x x
      have x2 := IntOp.addi x y1
      have y2 := smix 15#32 17#32 x2 y1
      have x3 := IntOp.addi x2 y2
      have y3 := smix 26#32 6#32 x3 y2
      have x4 := IntOp.addi x3 y3
      have y4 := smix 6#32 26#32 x4 y3
      k x4 y4) := by
  unfold srounds
  rw [h]

/-- The generator's word of a counter, from a first word of zero. -/
theorem bits_eq (z x : BitVec 32) (h : IntOp.addi z x = x) :
    bits x = srounds 13#32 19#32 15#32 17#32 26#32 6#32 6#32 26#32 z x after4 := by
  rw [first_rounds after4 z x h]
  rfl

/-- Two words added in turn. -/
theorem addi_addi (y a b c : BitVec 32) (h : a + b = c) : IntOp.addi (IntOp.addi y a) b = IntOp.addi y c := by
  show y + a + b = y + c
  rw [BitVec.add_assoc, h]

/-- Adding the zero word. -/
theorem addi_zero (y : BitVec 32) : IntOp.addi y 0#32 = y := BitVec.add_zero y

/-- A key schedule step's words handed on. -/
theorem key_step (c d x y x' y' : BitVec 32) (hx : x' = IntOp.addi x c) (hy : y' = IntOp.addi y d) : k x' y' = skey c d x y k := by
  subst hx hy
  rfl

/-- The second word of a key schedule step, its parts added in turn. -/
theorem key_word (y y' a b c : BitVec 32) (hy : y' = IntOp.addi (IntOp.addi y a) b) (h : a + b = c) : y' = IntOp.addi y c :=
  hy.trans (addi_addi y a b c h)

/-- The last key words and the exclusive-or. -/
theorem ref_after20 : val_main_v181 (F := F) i = after20 (val_main_v168 (F := F) i) (val_main_v174 (F := F) i) := by
  unfold after20
  exact key_step (fun x y => IntOp.xori x y) _ _ _ _ (val_main_v176 (F := F) i) (val_main_v180 (F := F) i) rfl
    (key_word _ _ 0#32 5#32 5#32 rfl (by decide))

/-- Rounds 17 to 20 with their key words. -/
theorem ref_after16 : after20 (val_main_v168 (F := F) i) (val_main_v174 (F := F) i) = after16 (val_main_v134 (F := F) i) (val_main_v140 (F := F) i) := by
  rw [ref_rounds5 (F := F) i after20]
  unfold after16
  exact key_step (fun x y => srounds 13#32 19#32 15#32 17#32 26#32 6#32 6#32 26#32 x y after20) _ _ _ _
    (val_main_v142 (F := F) i) (val_main_v146 (F := F) i) rfl (key_word _ _ 466689008#32 4#32 466689012#32 rfl (by decide))

/-- Rounds 13 to 16 with their key words. -/
theorem ref_after12 : after16 (val_main_v134 (F := F) i) (val_main_v140 (F := F) i) = after12 (val_main_v100 (F := F) i) (val_main_v106 (F := F) i) := by
  rw [ref_rounds4 (F := F) i after16]
  unfold after12
  rw [show val_main_v108 (F := F) i = IntOp.addi (val_main_v100 (F := F) i) 0#32 from rfl, addi_zero,
    key_word (val_main_v106 (F := F) i) (val_main_v112 (F := F) i) 42#32 3#32 45#32 rfl (by decide)]

/-- Rounds 9 to 12 with their key words. -/
theorem ref_after8 : after12 (val_main_v100 (F := F) i) (val_main_v106 (F := F) i) = after8 (val_main_v66 (F := F) i) (val_main_v72 (F := F) i) := by
  rw [ref_rounds3 (F := F) i after12]
  unfold after8
  exact key_step (fun x y => srounds 13#32 19#32 15#32 17#32 26#32 6#32 6#32 26#32 x y after12) _ _ _ _
    (val_main_v74 (F := F) i) (val_main_v78 (F := F) i) rfl (key_word _ _ 0#32 2#32 2#32 rfl (by decide))

/-- Rounds 5 to 8 with their key words. -/
theorem ref_after4 : after8 (val_main_v66 (F := F) i) (val_main_v72 (F := F) i) = after4 (val_main_v32 (F := F) i) (val_main_v38 (F := F) i) := by
  rw [ref_rounds2 (F := F) i after8]
  unfold after4
  exact key_step (fun x y => srounds 17#32 15#32 29#32 3#32 16#32 16#32 24#32 8#32 x y after8) _ _ _ _
    (val_main_v40 (F := F) i) (val_main_v44 (F := F) i) rfl (key_word _ _ 466689008#32 1#32 466689009#32 rfl (by decide))

/-- The reference's word is the generator's of its counter. -/
theorem ref_bits : val_main_v181 (F := F) i = bits (val_main_v10 (F := F) i) := by
  rw [ref_after20, ref_after16, ref_after12, ref_after8, ref_after4, ref_rounds1 (F := F) i after4]
  exact (bits_eq _ _ (BitVec.zero_add _)).symm

/-- The reference's counter. -/
theorem ref_counter : val_main_v10 (F := F) i = cw (i 0).val (i 1).val := by
  show BitVec.ofNat 32 (i 0).val * BitVec.ofNat 32 1000000 + BitVec.ofNat 32 (i 1).val + BitVec.ofNat 32 42 = _
  rw [← BitVec.ofNat_mul, ← BitVec.ofNat_add, ← BitVec.ofNat_add]
  rfl

/-! ## The reference's scores -/

/-- The pattern of zero. -/
theorem ofBits_zero : Ideal.ofBits .f32 0x00000000#32 = (0 : EReal) := by
  simp [Ideal.ofBits, Ideal.ieee]

/-- The pattern of one. -/
theorem ofBits_one : Ideal.ofBits .f32 0x3F800000#32 = (1 : EReal) := by
  simp [Ideal.ofBits, Ideal.ieee, -EReal.coe_mul]; norm_num

/-- A word's upper bits under the exponent of one: the exponent field. -/
theorem mant_ex (w : BitVec 32) : ((w >>> 9#32) ||| 1065353216#32).extractLsb' 23 8 = 127#8 := by
  refine BitVec.eq_of_getLsbD_eq fun n hn => ?_
  interval_cases n <;> simp [BitVec.getLsbD_extractLsb']

/-- A word's upper bits under the exponent of one: the sign. -/
theorem mant_sign (w : BitVec 32) : ((w >>> 9#32) ||| 1065353216#32).extractLsb' 31 1 = 0#1 := by
  refine BitVec.eq_of_getLsbD_eq fun n hn => ?_
  interval_cases n <;> simp [BitVec.getLsbD_extractLsb']

/-- A word's upper bits under the exponent of one denote a number from one on. -/
theorem one_le_mant (w : BitVec 32) : (1 : EReal) ≤ Ideal.ofBits .f32 (IntOp.ori (IntOp.shrui .vector w 9#32) 1065353216#32) := by
  show (1 : EReal) ≤ Ideal.ieee 8 23 ((w >>> 9#32) ||| 1065353216#32)
  unfold Ideal.ieee
  rw [show (8 + 23 : ℕ) = 31 from rfl, mant_sign, mant_ex]
  generalize (((w >>> 9#32) ||| 1065353216#32).extractLsb' 0 23).toNat = n
  have h : (1 : ℝ) ≤ ((2 ^ 23 + n : ℕ) : ℝ) * (2 : ℝ) ^ (-23 : ℤ) := by
    rw [zpow_neg, ← div_eq_mul_inv, le_div_iff₀ (by positivity)]
    push_cast
    have : (0 : ℝ) ≤ n := Nat.cast_nonneg n
    norm_num
  have h2 : ((1 : ℝ) : EReal) ≤ ((((2 ^ 23 + n : ℕ) : ℝ) * (2 : ℝ) ^ (-23 : ℤ) : ℝ) : EReal) := EReal.coe_le_coe_iff.2 h
  rw [EReal.coe_one] at h2
  simpa using h2

/-- The uniform number before its shift is not negative. -/
theorem unif_nonneg (w : BitVec 32) :
    (0 : EReal) ≤ Ideal.ofBits .f32 (IntOp.ori (IntOp.shrui .vector w 9#32) 1065353216#32) - Ideal.ofBits .f32 0x3F800000#32 := by
  rw [ofBits_one]
  exact (EReal.sub_nonneg (.inr (EReal.coe_one ▸ EReal.coe_ne_top 1)) (.inr (EReal.coe_one ▸ EReal.coe_ne_bot 1))).2 (one_le_mant w)

/-- The score of a random word and a weight, as the reference computes it. -/
def rscore (w : BitVec 32) (x : Ideal .f32) : Ideal .f32 :=
  FloatOps.addf (FloatOps.hostNegf (FloatOps.hostUnary .log (FloatOps.hostNegf (FloatOps.hostUnary .log
    (FloatOps.maximumf (FloatOps.ofBits .f32 0x00800000#32)
      (FloatOps.addf (FloatOps.mulf (FloatOps.subf (FloatOps.ofBits .f32 (IntOp.ori (IntOp.shrui .host w 9#32) 1065353216#32))
        (FloatOps.ofBits .f32 0x3F800000#32)) (FloatOps.ofBits .f32 0x3F800000#32)) (FloatOps.ofBits .f32 0x00800000#32)))))))
    (FloatOps.hostUnary .log x)

/-- The two are one. -/
theorem rscore_eq (w : BitVec 32) (x : Ideal .f32) : rscore w x = kscore w x := by
  have h := unif_nonneg w
  have e : IntOp.shrui .host w 9#32 = IntOp.shrui .vector w 9#32 := rfl
  unfold rscore kscore
  rw [e]
  simp only [Scalar.ofBits]
  show (-(Ideal.log (-(Ideal.log (max (Ideal.ofBits .f32 0x00800000#32)
      ((Ideal.ofBits .f32 (IntOp.ori (IntOp.shrui .vector w 9#32) 1065353216#32) - Ideal.ofBits .f32 0x3F800000#32)
        * Ideal.ofBits .f32 0x3F800000#32 + Ideal.ofBits .f32 0x00800000#32))))) + Ideal.log x : EReal)
    = (Ideal.ofBits .f32 0x00000000#32 - Ideal.log (Ideal.ofBits .f32 0x00000000#32 - Ideal.log
      ((Ideal.ofBits .f32 (IntOp.ori (IntOp.shrui .vector w 9#32) 1065353216#32) - Ideal.ofBits .f32 0x3F800000#32)
        + Ideal.ofBits .f32 0x00800000#32))) + Ideal.log x
  generalize (Ideal.ofBits .f32 (IntOp.ori (IntOp.shrui .vector w 9#32) 1065353216#32)
    - Ideal.ofBits .f32 0x3F800000#32 : EReal) = f at h ⊢
  generalize (Ideal.ofBits .f32 0x00800000#32 : EReal) = t
  rw [ofBits_one, ofBits_zero, mul_one, max_eq_right (le_add_of_nonneg_left h), zero_sub, zero_sub]

/-- The reference's score of an entry, from its random word. -/
theorem ref_v199 (x : Cert.ReferenceIdeal.S32x1000000.Idx → Ideal .f32) (i : Cert.ReferenceIdeal.S32x1000000.Idx) :
    val_main_v199 (F := Ideal) x i = rscore (val_main_v181 (F := Ideal) i) (x i) := by
  rw [val_main_v199_apply, val_main_v198_apply, val_main_v197_apply, val_main_v196_apply, val_main_v195_apply, val_main_v194_apply, val_main_v193_apply, val_main_v192_apply, val_main_v191_apply, val_main_v190_apply, val_main_v189_apply, val_main_v188_apply, val_main_v187_apply, val_main_v186_apply, val_main_v185_apply, val_main_v184_apply, val_main_v183_apply, val_main_v182_apply, val_main_v0_apply, val_main_cst_62_apply, val_main_cst_61_apply, val_main_cst_60_apply, val_main_cst_apply, val_main_c_59_apply, val_main_c_58_apply]
  unfold rscore
  rfl

/-- The reference's score of an entry is the kernels'. -/
theorem ref_score (x : Cert.ReferenceIdeal.S32x1000000.Idx → Ideal .f32) (i : Cert.ReferenceIdeal.S32x1000000.Idx) :
    val_main_v199 (F := Ideal) x i = sc x (i 0).val (i 1).val := by
  have hx : xAt (F := Ideal) x (i 0).val (i 1).val = x i :=
    (dif_pos ⟨(i 0).isLt, (i 1).isLt⟩).trans (congrArg x (funext fun a => by fin_cases a <;> rfl))
  unfold sc
  rw [ref_v199, rscore_eq, ref_bits, ref_counter, hx]

end Cert.Proof

end
-- ==== Proof.Algebra.lean ====
/- Both programs' results are, at the extended reals, the first column of each row with the largest score. -/
module

public import proofs.«01_k».proof.Proof.Ref
public import proofs.«01_k».proof.Proof.Run

@[expose] public section

noncomputable section

namespace Cert.Proof

open Idealize.ShloMosaic Idealize.SL.Sem

/-- A choice on an equality. -/
theorem sel_eq {α : Type} (x y : EReal) (a b : α) :
    Scalar.select (FloatOps.cmpf (F := Ideal) (φ := .f32) .oeq x y) a b = if x = y then a else b := by
  show (if BitVec.ofBool (decide (x = y)) = 1 then a else b) = _
  by_cases h : x = y
  · rw [decide_eq_true h, if_pos h]; rfl
  · rw [decide_eq_false h, if_neg h]; rfl

/-- The pattern of the least value. -/
theorem ofBits_bot : (FloatOps.ofBits .f32 0xFF800000#32 : Ideal .f32) = (⊥ : EReal) := by
  show Ideal.ofBits .f32 0xFF800000#32 = _
  simp [Ideal.ofBits, Ideal.ieee]

/-- `fold_max_eq` of a function known entry by entry. -/
theorem fold_max_of_eq {n : ℕ} {g g' : Fin n → EReal} (h : g = g') (i : Fin n) (hi : ∀ k, g' k ≤ g' i) :
    (Finset.univ : Finset (Fin n)).fold max ⊥ g = g' i := h ▸ fold_max_eq g i (h ▸ hi)

/-- `fold_minsi_eq` of a function known entry by entry. -/
theorem fold_minsi_of_eq {n : ℕ} {g g' : Fin n → BitVec 32} (h : g = g') (i : Fin n) (hi : ∀ k, (g' i).toInt ≤ (g' k).toInt) :
    (Finset.univ : Finset (Fin n)).fold IntOp.minsi 2147483647#32 g = g' i := h ▸ fold_minsi_eq g i (h ▸ hi)

/-- A host's reduction with the maximum along one axis is an entry that none exceeds. -/
theorem reduce_max_of {s t u : Shape} {a : Fin s.rank} (v : s.Idx → Ideal .f32) (init : u.Idx → Ideal .f32) (h' : s.ReducesTo [a] t)
    (h : s.Reduces [a] t) (hu : 0 < u.numel) (j : t.Idx) (f : Fin (s.size a) → EReal) (hi : (init (Shape.Idx.first hu) : EReal) = ⊥)
    (hf : ∀ k, (v (h.lift j k) : EReal) = f k) (c : Fin (s.size a)) (hc : ∀ k, f k ≤ f c) :
    (Host.reduce (FloatOps.maximumf (F := Ideal) (φ := .f32)) v init h' hu j : EReal) = f c := by
  refine (Host.reduce_eq_fold_single _ v init h' h hu j).trans ?_
  rw [hi]
  exact fold_max_of_eq (funext hf) c hc

/-- A host's reduction with the minimum along one axis is an entry that exceeds none. -/
theorem reduce_min_of {s t u : Shape} {a : Fin s.rank} (v : s.Idx → BitVec 32) (init : u.Idx → BitVec 32) (h' : s.ReducesTo [a] t)
    (h : s.Reduces [a] t) (hu : 0 < u.numel) (j : t.Idx) (f : Fin (s.size a) → BitVec 32) (hi : init (Shape.Idx.first hu) = 2147483647#32)
    (hf : ∀ k, v (h.lift j k) = f k) (c : Fin (s.size a)) (hc : ∀ k, (f c).toInt ≤ (f k).toInt) :
    Host.reduce IntOp.minsi v init h' hu j = f c := by
  refine (Host.reduce_eq_fold_single _ v init h' h hu j).trans ?_
  rw [hi]
  exact fold_minsi_of_eq (funext hf) c hc

section Kernel

open Cert.KernelIdeal Cert.KernelIdeal.Gen

/-- The index of row `r` in a vector of rows. -/
abbrev row0 (r : Fin 32) : S32.Idx := fun a => ⟨(![r.val] : Fin 1 → ℕ) a, by fin_cases a; exact r.isLt⟩

/-- The index at row `r` and lane `l`. -/
abbrev lane (r : Fin 32) (l : Fin 128) : S32x128.Idx := fun a => ⟨(![r.val, l.val] : Fin 2 → ℕ) a, by fin_cases a; exacts [r.isLt, l.isLt]⟩

/-- A row with the lane's number inserted. -/
theorem lift_row0 (r : Fin 32) (l : Fin 128) : reduces_S32x128_S32.lift (row0 r) l = lane r l :=
  funext fun a => by fin_cases a <;> rfl

/-- A column of rows read at a row. -/
theorem column_apply {α : Type} (v : S32.Idx → α) (i : S32x1.Idx) : shapeCast S32x1 v shapeCasts_S32_S32x1 i = v (row0 (i 0)) := by
  refine shapeCast_apply _ _ _ _ ?_
  rw [Shape.rowMajor_val_one, Shape.rowMajor_val_two]
  have h : (i 1).val = 0 := by have := (i 1).isLt; have h : S32x1.size 1 = 1 := rfl; omega
  rw [h]
  show (i 0).val = (i 0).val * 1 + 0
  omega

/-- The largest of a row's lanes. -/
theorem lanes_max (v : FVec Ideal S32x128 .f32) (r : Fin 32) (l : Fin 128) (h : ∀ k, (v (lane r k) : EReal) ≤ v (lane r l)) :
    multiReduction .maximumf [1] S32 v 0xFF800000#32 reduces_S32x128_S32 (.inl rfl) rfl (row0 r) = v (lane r l) := by
  have hf : (v ∘ reduces_S32x128_S32.lift (row0 r) : Fin 128 → EReal) = fun k => v (lane r k) := funext fun k => congrArg v (lift_row0 r k)
  refine (Ideal.multiReduction_maximumf_single v _ reduces_S32x128_S32 (.inl rfl) rfl (row0 r)).trans ?_
  refine (congrArg (fun b : EReal => (Finset.univ : Finset (Fin 128)).fold max b (v ∘ reduces_S32x128_S32.lift (row0 r) : Fin 128 → EReal)) ofBits_bot).trans ?_
  exact (congrArg (fun g : Fin 128 → EReal => (Finset.univ : Finset (Fin 128)).fold max ⊥ g) hf).trans (fold_max_eq (fun k => (v (lane r k) : EReal)) l h)

/-- The least of a row's words. -/
theorem lanes_min (w : IVec S32x128 32) (r : Fin 32) (l : Fin 128) (h : ∀ k, (w (lane r l)).toInt ≤ (w (lane r k)).toInt) :
    multiReductionI .minsi [1] S32 w 2147483647#32 reduces_S32x128_S32 rfl (row0 r) = w (lane r l) := by
  have hf : (w ∘ reduces_S32x128_S32.lift (row0 r) : Fin 128 → BitVec 32) = fun k => w (lane r k) := funext fun k => congrArg w (lift_row0 r k)
  refine (multiReductionI_eq_fold _ _ _ _ _ _).trans ((reduces_S32x128_S32.fold_filter_drop_single _ _ _ _).trans ?_)
  exact (congrArg (fun g : Fin 128 → BitVec 32 => (Finset.univ : Finset (Fin 128)).fold IntOp.minsi 2147483647#32 g) hf).trans
    (fold_minsi_eq (fun k => w (lane r k)) l h)

/-- Among a row's lanes: the one with the largest score, the smallest column on equality. -/
theorem exists_best {f : Fin 128 → EReal} {c : Fin 128 → ℕ} : ∃ l, (∀ k, f k ≤ f l) ∧ ∀ k, f k = f l → c l ≤ c k := by
  obtain ⟨m, -, hm⟩ := Finset.exists_max_image (Finset.univ : Finset (Fin 128)) f Finset.univ_nonempty
  obtain ⟨l, hl, hl'⟩ := Finset.exists_min_image ((Finset.univ : Finset (Fin 128)).filter fun k => f k = f m) c
    ⟨m, Finset.mem_filter.2 ⟨Finset.mem_univ _, rfl⟩⟩
  have e := (Finset.mem_filter.1 hl).2
  exact ⟨l, fun k => e ▸ hm k (Finset.mem_univ _), fun k hk => hl' k (Finset.mem_filter.2 ⟨Finset.mem_univ _, hk.trans e⟩)⟩

/-- The column that a row's lanes' best scores and counters give. -/
theorem vfinal_apply (X : S32x1000000.Idx → Ideal .f32) (v : FVec Ideal S32x128 .f32) (w : IVec S32x128 32) (i : S32x1.Idx) (c : Fin 128 → ℕ)
    (hv : ∀ k, (v (lane (i 0) k) : EReal) = sc X (i 0).val (c k)) (hw : ∀ k, w (lane (i 0) k) = cw (i 0).val (c k)) (hc : ∀ k, c k < 1000000)
    (l : Fin 128) (hmax : ∀ k, sc X (i 0).val (c k) ≤ sc X (i 0).val (c l)) (hmin : ∀ k, sc X (i 0).val (c k) = sc X (i 0).val (c l) → c l ≤ c k) :
    vfinal vBase v w i = BitVec.ofNat 32 (c l) := by
  have hi : (i 0).val < 32 := (i 0).isLt
  have ht : ∀ k, (cw (i 0).val (c k)).toInt = ((i 0).val * 1000000 + c k + 42 : ℕ) := fun k => by
    have := hc k
    exact toInt_ofNat_small (by omega)
  have hM : multiReduction .maximumf [1] S32 v 0xFF800000#32 reduces_S32x128_S32 (.inl rfl) rfl (row0 (i 0)) = v (lane (i 0) l) :=
    lanes_max v (i 0) l fun k => by rw [hv, hv]; exact hmax k
  have hs : ∀ k, select (cmpf .oeq v (broadcastTo S32x128
      (shapeCast S32x1 (multiReduction .maximumf [1] S32 v 0xFF800000#32 reduces_S32x128_S32 (.inl rfl) rfl) shapeCasts_S32_S32x1)
      broadcasts_S32x1_S32x128)) w (broadcast S32x128 2147483647#32) (lane (i 0) k)
      = if sc X (i 0).val (c k) = sc X (i 0).val (c l) then cw (i 0).val (c k) else 2147483647#32 := fun k => by
    have hb : broadcastTo S32x128 (shapeCast S32x1 (multiReduction .maximumf [1] S32 v 0xFF800000#32 reduces_S32x128_S32 (.inl rfl) rfl) shapeCasts_S32_S32x1)
        broadcasts_S32x1_S32x128 (lane (i 0) k) = v (lane (i 0) l) := by
      rw [broadcastTo_apply _ _ _ (row1 (i 0)) (fun a => by fin_cases a <;> rfl), column_apply]
      exact hM
    show Scalar.select (FloatOps.cmpf .oeq (v (lane (i 0) k)) (broadcastTo S32x128 _ broadcasts_S32x1_S32x128 (lane (i 0) k))) (w (lane (i 0) k)) 2147483647#32 = _
    rw [hb]
    refine (sel_eq _ _ _ _).trans ?_
    rw [hv, hv, hw]
  unfold vfinal
  show IntOp.subi (shapeCast S32x1 _ shapeCasts_S32_S32x1 i) (extractStridedSlice S32x1 ![0, 0] vBase slices_S32x128_o0_0_S32x1 i) = _
  rw [column_apply, lanes_min _ (i 0) l, hs, if_pos rfl,
    extractStridedSlice_apply _ _ _ _ (lane0 (i 0)) (fun a => by
      have h : (i 1).val = 0 := by have := (i 1).isLt; have h : S32x1.size 1 = 1 := rfl; omega
      fin_cases a
      · simp
      · simp [h]), vBase_apply,
    show (lane0 (i 0) 0).val = (i 0).val from rfl, show (lane0 (i 0) 1).val = 0 from rfl]
  · exact sub_words _ _
  · intro k
    rw [hs, hs, if_pos rfl, ht]
    split
    · rename_i h
      rw [ht]
      have := hmin k h
      omega
    · rw [show (2147483647#32).toInt = 2147483647 from rfl]
      have := hc l
      omega

/-- The kernel's result: in each row the first column with the largest score. -/
theorem result2_apply (X : S32x1000000.Idx → Ideal .f32) (i : S32x1.Idx) :
    ∃ c, First (sc X (i 0).val) (· < 1000000) c ∧ result2 X i = BitVec.ofNat 32 c := by
  choose c hc h1 h2 using fun l : Fin 128 => lane_end (X := X) (lane (i 0) l)
  obtain ⟨l, hmax, hmin⟩ := exists_best (f := fun l => sc X (i 0).val (c l)) (c := c)
  refine ⟨c l, (First.of_parts (S := fun l : Fin 128 => part l.val fun _ => True) hc l hmax hmin).congr fun d => ⟨fun ⟨_, h⟩ => h.1, fun h => ?_⟩, ?_⟩
  · exact ⟨⟨d % 128, Nat.mod_lt _ (by omega)⟩, h, rfl, trivial⟩
  · exact vfinal_apply X _ _ i c h1 h2 (fun k => (hc k).1.1) l hmax hmin

end Kernel

section Reference

open Cert.ReferenceIdeal Cert.ReferenceIdeal.Gen Cert.ReferenceIdeal.Read

/-- The index of row `r` in a vector of rows. -/
abbrev rrow (r : Fin 32) : S32.Idx := fun a => ⟨(![r.val] : Fin 1 → ℕ) a, by fin_cases a; exact r.isLt⟩

/-- The columns. -/
abbrev Col : Type := Fin (S32x1000000.size 1)

/-- The index at row `r` and column `c`. -/
abbrev ent (r : Fin 32) (c : Col) : S32x1000000.Idx := fun a => ⟨(![r.val, c.val] : Fin 2 → ℕ) a, by fin_cases a; exacts [r.isLt, c.isLt]⟩

/-- The columns are what a row's reduction runs over. -/
theorem reduces_ref : S32x1000000.Reduces [1] S32 := by decide

/-- A row with the column's number inserted. -/
theorem lift_rrow (r : Fin 32) (c : Col) : reduces_ref.lift (rrow r) c = ent r c :=
  funext fun a => by fin_cases a <;> rfl

/-- The largest score of a row. -/
theorem ref_max (x : S32x1000000.Idx → Ideal .f32) (r : Fin 32) (c : Col) (h : ∀ k : Col, sc x r.val k.val ≤ sc x r.val c.val) :
    val_main_v200 (F := Ideal) x (rrow r) = sc x r.val c.val := by
  unfold val_main_v200
  exact reduce_max_of (val_main_v199 (F := Ideal) x) _ _ reduces_ref h_S_ (rrow r) (fun k => sc x r.val k.val) (by rw [val_main_cst_63_apply, ofBits_bot])
    (fun k => (congrArg (val_main_v199 (F := Ideal) x) (lift_rrow r k)).trans (ref_score x (ent r k))) c h

/-- A column where it has the row's largest score, else a million. -/
theorem ref_first (x : S32x1000000.Idx → Ideal .f32) (r : Fin 32) (c k : Col) (h : ∀ k : Col, sc x r.val k.val ≤ sc x r.val c.val) :
    val_main_v205 (F := Ideal) x (ent r k) = if sc x r.val k.val = sc x r.val c.val then BitVec.ofNat 32 k.val else 1000000#32 := by
  rw [val_main_v205_apply, val_main_v204_apply, val_main_v203_apply, val_main_v201_apply, ref_score, val_main_call0_v0_apply, val_main_c_64_apply]
  rw [show idx_main_v201 (idx_main_v203 (ent r k)) = rrow r from funext fun a => by fin_cases a; rfl, ref_max x r c h]
  exact sel_eq _ _ _ _

/-- The reference's result: in each row the first column with the largest score. -/
theorem ref_result (x : S32x1000000.Idx → Ideal .f32) (i : S32x1.Idx) (c : ℕ) (hc : First (sc x (i 0).val) (· < 1000000) c) :
    val_main_v207 (F := Ideal) x i = BitVec.ofNat 32 c := by
  have hmax : ∀ k : Col, sc x (i 0).val k.val ≤ sc x (i 0).val c := fun k => (hc.2 k.val k.isLt).elim le_of_lt fun h => h.1.le
  have hc1 : c < 1000000 := hc.1
  rw [val_main_v207_apply, show idx_main_v207 i = rrow (i 0) from funext fun a => by fin_cases a; rfl]
  unfold val_main_v206
  refine (reduce_min_of (val_main_v205 (F := Ideal) x) _ _ reduces_ref h_S_ (rrow (i 0))
    (fun k => if sc x (i 0).val k.val = sc x (i 0).val c then BitVec.ofNat 32 k.val else 1000000#32) (val_main_c_65_apply _)
    (fun k => (congrArg (val_main_v205 (F := Ideal) x) (lift_rrow (i 0) k)).trans (ref_first x (i 0) ⟨c, hc1⟩ k hmax)) ⟨c, hc1⟩ fun k => ?_).trans (if_pos rfl)
  have hk : k.val < 1000000 := k.isLt
  show (if sc x (i 0).val c = sc x (i 0).val c then BitVec.ofNat 32 c else 1000000#32).toInt ≤ (if sc x (i 0).val k.val = sc x (i 0).val c then
    BitVec.ofNat 32 k.val else 1000000#32).toInt
  rw [if_pos rfl, toInt_ofNat_small (by omega)]
  split
  · rename_i h
    rw [toInt_ofNat_small (by omega)]
    rcases hc.2 k.val hk with h' | h'
    · exact absurd h (ne_of_lt h')
    · exact Int.ofNat_le.2 h'.2
  · rw [show (1000000#32).toInt = 1000000 from rfl]
    omega

end Reference

/-- From one argument the two programs end with one result. -/
theorem algebra : Cert.algebraic_KernelIdeal_ReferenceIdeal (hKernelIdeal := Cert.KernelIdeal.Gen.facts) (hReferenceIdeal := Cert.ReferenceIdeal.Gen.facts) := by
  intro m ρ m' ρ' _ hagree
  refine ⟨fun c => result2 (xOf m c), (θ_run _ _ _).mono (fun _ h c => ⟨(h.1 c).2, (h.1 c).1⟩) (run_main (F := Ideal) m ρ), ?_⟩
  refine (θ_run Cert.ReferenceIdeal.defs _ _).mono (fun _ h c => ⟨((h c).1.trans
    (Cert.ReferenceIdeal.Read.val_main_v207_eq (StableHlo.launchContents m' c))).trans ?_, (h c).2⟩) (Cert.ReferenceIdeal.Value.run (F := Ideal) m' ρ')
  funext i
  obtain ⟨k, hk, e⟩ := result2_apply (xOf m c) i
  refine Eq.trans ?_ e.symm
  have hx : (StableHlo.launchContents m' c (Proc.devRef .tc Cert.ReferenceIdeal.main_arg0)) = xOf m c := hagree c
  rw [hx]
  exact ref_result (xOf m c) i k hk

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Ref
public import proofs.«01_k».proof.Proof.Algebra

@[expose] public section

noncomputable section

namespace Cert.Proof

open Idealize.ShloMosaic Idealize.SL.Sem

/-- The three frames, that the idealized kernel is the kernel's own text, and that it and the reference give one result. -/
theorem claim : Cert.Claim := ⟨Cert.Kernel.Gen.facts, Cert.KernelIdeal.Gen.facts, Cert.ReferenceIdeal.Gen.facts,
  @frame_kernel Cert.Kernel.Gen.facts, @frame_ideal Cert.KernelIdeal.Gen.facts, frame_reference, trivial, algebra⟩

end Cert.Proof

end
